-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Postnorm (m : (ℓ : Loc Cert.Postnorm.nD Cert.Postnorm.τ Cert.Postnorm.sig) → Buf (Elt Bits) ℓ) : Prop :=
  True

def Pre_PostnormIdeal (m : (ℓ : Loc Cert.PostnormIdeal.nD Cert.PostnormIdeal.τ Cert.PostnormIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_Postnorm [hPostnorm : Cert.Postnorm.Facts] : Prop :=
  ∀ (m : (ℓ : Loc Cert.Postnorm.nD Cert.Postnorm.τ Cert.Postnorm.sig) → Buf (Elt Bits) ℓ) (g : Dev Cert.Postnorm.nD → PrngReg), Pre_Postnorm m →
    θ_run (Cert.Postnorm.defs (F := Bits)) (onTc (τ := Cert.Postnorm.τ) (Cert.Postnorm.main (F := Bits))) ⟨m, fun _ => 0, g⟩ (fun r => (∀ c : Dev Cert.Postnorm.nD,
      r.2.mem ((c.tc : Thread Cert.Postnorm.nD Cert.Postnorm.τ).loc Cert.Postnorm.main_arg0) = m ((c.tc : Thread Cert.Postnorm.nD Cert.Postnorm.τ).loc Cert.Postnorm.main_arg0)
      ∧ r.2.mem ((c.tc : Thread Cert.Postnorm.nD Cert.Postnorm.τ).loc Cert.Postnorm.main_arg1) = m ((c.tc : Thread Cert.Postnorm.nD Cert.Postnorm.τ).loc Cert.Postnorm.main_arg1)
      ∧ r.2.mem ((c.tc : Thread Cert.Postnorm.nD Cert.Postnorm.τ).loc Cert.Postnorm.main_arg2) = m ((c.tc : Thread Cert.Postnorm.nD Cert.Postnorm.τ).loc Cert.Postnorm.main_arg2)
      ∧ r.2.mem ((c.tc : Thread Cert.Postnorm.nD Cert.Postnorm.τ).loc Cert.Postnorm.main_arg3) = m ((c.tc : Thread Cert.Postnorm.nD Cert.Postnorm.τ).loc Cert.Postnorm.main_arg3))
      ∧ r.2.sem = fun _ => 0)

def quiescent_PostnormIdeal [hPostnormIdeal : Cert.PostnormIdeal.Facts] : Prop :=
  ∀ (m : (ℓ : Loc Cert.PostnormIdeal.nD Cert.PostnormIdeal.τ Cert.PostnormIdeal.sig) → Buf (Elt Ideal) ℓ) (g : Dev Cert.PostnormIdeal.nD → PrngReg), Pre_PostnormIdeal m →
    θ_run (Cert.PostnormIdeal.defs (F := Ideal)) (onTc (τ := Cert.PostnormIdeal.τ) (Cert.PostnormIdeal.main (F := Ideal))) ⟨m, fun _ => 0, g⟩ (fun r => (∀ c : Dev Cert.PostnormIdeal.nD,
      r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
      ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
      ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
      ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5)
      ∧ r.2.mem ((c.tc : Thread Cert.Next.nD Cert.Next.τ).loc Cert.Next.main_arg6) = m ((c.tc : Thread Cert.Next.nD Cert.Next.τ).loc Cert.Next.main_arg6))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5)
      ∧ r.2.mem ((c.tc : Thread Cert.NextRefIdeal.nD Cert.NextRefIdeal.τ).loc Cert.NextRefIdeal.main_arg6) = m ((c.tc : Thread Cert.NextRefIdeal.nD Cert.NextRefIdeal.τ).loc Cert.NextRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Modulation_ModulationIdeal : Prop :=
  True

def algebraic_ModulationIdeal_ModRefIdeal [hModulationIdeal : Cert.ModulationIdeal.Facts] [hModRefIdeal : Cert.ModRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModulationIdeal m →
    (∀ c : Dev Cert.ModulationIdeal.nD,
      m' ((c.tc : Thread Cert.ModRefIdeal.nD Cert.ModRefIdeal.τ).loc Cert.ModRefIdeal.main_arg0) = m ((c.tc : Thread Cert.ModulationIdeal.nD Cert.ModulationIdeal.τ).loc Cert.ModulationIdeal.main_arg0)
      ∧ m' ((c.tc : Thread Cert.ModRefIdeal.nD Cert.ModRefIdeal.τ).loc Cert.ModRefIdeal.main_arg1) = m ((c.tc : Thread Cert.ModulationIdeal.nD Cert.ModulationIdeal.τ).loc Cert.ModulationIdeal.main_arg1)
      ∧ m' ((c.tc : Thread Cert.ModRefIdeal.nD Cert.ModRefIdeal.τ).loc Cert.ModRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v33) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Prenorm_PrenormIdeal : Prop :=
  True

def algebraic_PrenormIdeal_PreRefIdeal [hPrenormIdeal : Cert.PrenormIdeal.Facts] [hPreRefIdeal : Cert.PreRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PrenormIdeal m →
    (∀ c : Dev Cert.PrenormIdeal.nD,
      m' ((c.tc : Thread Cert.PreRefIdeal.nD Cert.PreRefIdeal.τ).loc Cert.PreRefIdeal.main_arg0) = m ((c.tc : Thread Cert.PrenormIdeal.nD Cert.PrenormIdeal.τ).loc Cert.PrenormIdeal.main_arg0)
      ∧ m' ((c.tc : Thread Cert.PreRefIdeal.nD Cert.PreRefIdeal.τ).loc Cert.PreRefIdeal.main_arg1) = m ((c.tc : Thread Cert.PrenormIdeal.nD Cert.PrenormIdeal.τ).loc Cert.PrenormIdeal.main_arg1)
      ∧ m' ((c.tc : Thread Cert.PreRefIdeal.nD Cert.PreRefIdeal.τ).loc Cert.PreRefIdeal.main_arg2) = m ((c.tc : Thread Cert.PrenormIdeal.nD Cert.PrenormIdeal.τ).loc Cert.PrenormIdeal.main_arg2)
      ∧ m' ((c.tc : Thread Cert.PreRefIdeal.nD Cert.PreRefIdeal.τ).loc Cert.PreRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v3)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v3) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v21) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_Postnorm_PostnormIdeal : Prop :=
  True

def algebraic_PostnormIdeal_PostRefIdeal [hPostnormIdeal : Cert.PostnormIdeal.Facts] [hPostRefIdeal : Cert.PostRefIdeal.Facts] : Prop :=
  ∀ (m : (ℓ : Loc Cert.PostnormIdeal.nD Cert.PostnormIdeal.τ Cert.PostnormIdeal.sig) → Buf (Elt Ideal) ℓ) (g : Dev Cert.PostnormIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostnormIdeal m →
    (∀ c : Dev Cert.PostnormIdeal.nD,
      m' ((c.tc : Thread Cert.PostRefIdeal.nD Cert.PostRefIdeal.τ).loc Cert.PostRefIdeal.main_arg0) = m ((c.tc : Thread Cert.PostnormIdeal.nD Cert.PostnormIdeal.τ).loc Cert.PostnormIdeal.main_arg0)
      ∧ m' ((c.tc : Thread Cert.PostRefIdeal.nD Cert.PostRefIdeal.τ).loc Cert.PostRefIdeal.main_arg1) = m ((c.tc : Thread Cert.PostnormIdeal.nD Cert.PostnormIdeal.τ).loc Cert.PostnormIdeal.main_arg1)
      ∧ m' ((c.tc : Thread Cert.PostRefIdeal.nD Cert.PostRefIdeal.τ).loc Cert.PostRefIdeal.main_arg2) = m ((c.tc : Thread Cert.PostnormIdeal.nD Cert.PostnormIdeal.τ).loc Cert.PostnormIdeal.main_arg2)
      ∧ m' ((c.tc : Thread Cert.PostRefIdeal.nD Cert.PostRefIdeal.τ).loc Cert.PostRefIdeal.main_arg3) = m ((c.tc : Thread Cert.PostnormIdeal.nD Cert.PostnormIdeal.τ).loc Cert.PostnormIdeal.main_arg3)) →
    ∃ (v0 : (c : Dev Cert.PostnormIdeal.nD) → Buf (Elt Ideal) ((c.tc : Thread Cert.PostnormIdeal.nD Cert.PostnormIdeal.τ).loc Cert.PostnormIdeal.main_v2)),
      θ_run (Cert.PostnormIdeal.defs (F := Ideal)) (onTc (τ := Cert.PostnormIdeal.τ) (Cert.PostnormIdeal.main (F := Ideal))) ⟨m, fun _ => 0, g⟩ (fun r => ∀ c : Dev Cert.PostnormIdeal.nD,
          r.2.mem ((c.tc : Thread Cert.PostnormIdeal.nD Cert.PostnormIdeal.τ).loc Cert.PostnormIdeal.main_v2) = v0 c
          ∧ r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
          ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
          ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
          ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v17) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)
      ∧ m' ((c.tc : Thread Cert.NextRefIdeal.nD Cert.NextRefIdeal.τ).loc Cert.NextRefIdeal.main_arg6) = m ((c.tc : Thread Cert.NextIdeal.nD Cert.NextIdeal.τ).loc Cert.NextIdeal.main_arg6)) →
    ∃ (v0 : (c : Dev Cert.NextIdeal.nD) → Buf (Elt Ideal) ((c.tc : Thread Cert.NextIdeal.nD Cert.NextIdeal.τ).loc Cert.NextIdeal.main_v5_0)) (v1 : (c : Dev Cert.NextIdeal.nD) → Buf (Elt Ideal) ((c.tc : Thread Cert.NextIdeal.nD Cert.NextIdeal.τ).loc Cert.NextIdeal.main_v5_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v5_0) = v0 c
          ∧ r.2.mem ((c.tc : Thread Cert.NextIdeal.nD Cert.NextIdeal.τ).loc Cert.NextIdeal.main_v5_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
          ∧ r.2.mem ((c.tc : Thread Cert.NextIdeal.nD Cert.NextIdeal.τ).loc Cert.NextIdeal.main_arg6) = m ((c.tc : Thread Cert.NextIdeal.nD Cert.NextIdeal.τ).loc Cert.NextIdeal.main_arg6))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v17) = v0 c
          ∧ r.2.mem ((c.tc : Thread Cert.NextRefIdeal.nD Cert.NextRefIdeal.τ).loc Cert.NextRefIdeal.main_v39) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5)
          ∧ r.2.mem ((c.tc : Thread Cert.NextRefIdeal.nD Cert.NextRefIdeal.τ).loc Cert.NextRefIdeal.main_arg6) = m' ((c.tc : Thread Cert.NextRefIdeal.nD Cert.NextRefIdeal.τ).loc Cert.NextRefIdeal.main_arg6))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v40_0)) (v1 : (c : Dev Cert.PrepIdeal.nD) → Buf (Elt Ideal) ((c.tc : Thread Cert.PrepIdeal.nD Cert.PrepIdeal.τ).loc Cert.PrepIdeal.main_v40_1)) (v2 : (c : Dev Cert.PrepIdeal.nD) → Buf (Elt Ideal) ((c.tc : Thread Cert.PrepIdeal.nD Cert.PrepIdeal.τ).loc Cert.PrepIdeal.main_v40_2)) (v3 : (c : Dev Cert.PrepIdeal.nD) → Buf (Elt Ideal) ((c.tc : Thread Cert.PrepIdeal.nD Cert.PrepIdeal.τ).loc Cert.PrepIdeal.main_v40_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v40_0) = v0 c
          ∧ r.2.mem ((c.tc : Thread Cert.PrepIdeal.nD Cert.PrepIdeal.τ).loc Cert.PrepIdeal.main_v40_1) = v1 c
          ∧ r.2.mem ((c.tc : Thread Cert.PrepIdeal.nD Cert.PrepIdeal.τ).loc Cert.PrepIdeal.main_v40_2) = v2 c
          ∧ r.2.mem ((c.tc : Thread Cert.PrepIdeal.nD Cert.PrepIdeal.τ).loc Cert.PrepIdeal.main_v40_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v100) = v0 c
          ∧ r.2.mem ((c.tc : Thread Cert.PrepRefIdeal.nD Cert.PrepRefIdeal.τ).loc Cert.PrepRefIdeal.main_v105) = v1 c
          ∧ r.2.mem ((c.tc : Thread Cert.PrepRefIdeal.nD Cert.PrepRefIdeal.τ).loc Cert.PrepRefIdeal.main_v110) = v2 c
          ∧ r.2.mem ((c.tc : Thread Cert.PrepRefIdeal.nD Cert.PrepRefIdeal.τ).loc Cert.PrepRefIdeal.main_v111) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hModulation : Cert.Modulation.Facts) (hModulationIdeal : Cert.ModulationIdeal.Facts) (hModRefIdeal : Cert.ModRefIdeal.Facts) (hPrenorm : Cert.Prenorm.Facts) (hPrenormIdeal : Cert.PrenormIdeal.Facts) (hPreRefIdeal : Cert.PreRefIdeal.Facts) (hPostnorm : Cert.Postnorm.Facts) (hPostnormIdeal : Cert.PostnormIdeal.Facts) (hPostRefIdeal : Cert.PostRefIdeal.Facts) (hNext : Cert.Next.Facts) (hNextIdeal : Cert.NextIdeal.Facts) (hNextRefIdeal : Cert.NextRefIdeal.Facts) (hPrep : Cert.Prep.Facts) (hPrepIdeal : Cert.PrepIdeal.Facts) (hPrepRefIdeal : Cert.PrepRefIdeal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_Modulation (hModulation := hModulation)
    ∧ quiescent_ModulationIdeal (hModulationIdeal := hModulationIdeal)
    ∧ quiescent_ModRefIdeal (hModRefIdeal := hModRefIdeal)
    ∧ quiescent_Prenorm (hPrenorm := hPrenorm)
    ∧ quiescent_PrenormIdeal (hPrenormIdeal := hPrenormIdeal)
    ∧ quiescent_PreRefIdeal (hPreRefIdeal := hPreRefIdeal)
    ∧ quiescent_Postnorm (hPostnorm := hPostnorm)
    ∧ quiescent_PostnormIdeal (hPostnormIdeal := hPostnormIdeal)
    ∧ quiescent_PostRefIdeal (hPostRefIdeal := hPostRefIdeal)
    ∧ quiescent_Next (hNext := hNext)
    ∧ quiescent_NextIdeal (hNextIdeal := hNextIdeal)
    ∧ quiescent_NextRefIdeal (hNextRefIdeal := hNextRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_Modulation_ModulationIdeal
    ∧ algebraic_ModulationIdeal_ModRefIdeal (hModulationIdeal := hModulationIdeal) (hModRefIdeal := hModRefIdeal)
    ∧ preserves_Prenorm_PrenormIdeal
    ∧ algebraic_PrenormIdeal_PreRefIdeal (hPrenormIdeal := hPrenormIdeal) (hPreRefIdeal := hPreRefIdeal)
    ∧ preserves_Postnorm_PostnormIdeal
    ∧ algebraic_PostnormIdeal_PostRefIdeal (hPostnormIdeal := hPostnormIdeal) (hPostRefIdeal := hPostRefIdeal)
    ∧ preserves_Next_NextIdeal
    ∧ algebraic_NextIdeal_NextRefIdeal (hNextIdeal := hNextIdeal) (hNextRefIdeal := hNextRefIdeal)
    ∧ preserves_Prep_PrepIdeal
    ∧ algebraic_PrepIdeal_PrepRefIdeal (hPrepIdeal := hPrepIdeal) (hPrepRefIdeal := hPrepRefIdeal)
-- ==== Pre_finite_and_ones.lean ====
abbrev S16384x12800 : Shape := ⟨2, ![16384, 12800]⟩
abbrev S16384x512 : Shape := ⟨2, ![16384, 512]⟩
abbrev S4x16x144x1024 : Shape := ⟨4, ![4, 16, 144, 1024]⟩
abbrev S128 : Shape := ⟨1, ![128]⟩
abbrev S16384x1536 : Shape := ⟨2, ![16384, 1536]⟩
abbrev S_ : Shape := ⟨0, ![]⟩
abbrev S4x16x1x1024 : Shape := ⟨4, ![4, 16, 1, 1024]⟩
abbrev S4x16x1024 : Shape := ⟨3, ![4, 16, 1024]⟩

class Facts : Prop where
  slices_S16384x12800_S16384x1536_0_8704 : S16384x12800.Slices ![0, 8704] S16384x1536
  bitsLt_bf16_f32 : FTy.bits .bf16 < FTy.bits .f32
  bcast_S_S16384x1536 : S_.BroadcastsInDim S16384x1536 (![] : Fin 0 → Fin S16384x1536.rank)
  bcast_S_S16384x512 : S_.BroadcastsInDim S16384x512 (![] : Fin 0 → Fin S16384x512.rank)
  slices_S4x16x144x1024_S4x16x1x1024_0_0_128_0 : S4x16x144x1024.Slices ![0, 0, 128, 0] S4x16x1x1024
  shapeCasts_S4x16x1x1024_S4x16x1024 : S4x16x1x1024.ShapeCasts S4x16x1024
  bcast_S_S4x16x1024 : S_.BroadcastsInDim S4x16x1024 (![] : Fin 0 → Fin S4x16x1024.rank)
  bcast_S_S128 : S_.BroadcastsInDim S128 (![] : Fin 0 → Fin S128.rank)

variable [Facts]

def fn {F : FTy → Type} [FloatOps F] (main_arg0 : FVec F S16384x12800 .bf16) (main_arg1 : FVec F S16384x512 .bf16) (main_arg2 : FVec F S4x16x144x1024 .bf16) (main_arg3 : FVec F S128 .f32) : IVec S16384x1536 1 × IVec S16384x512 1 × IVec S4x16x1024 1 × IVec S128 1 :=
  let main_v0 : FVec F S16384x1536 .bf16 := (extractStridedSlice S16384x1536 ![0, 8704] · slices_S16384x12800_S16384x1536_0_8704) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_v9 : FVec F S4x16x1x1024 .bf16 := (extractStridedSlice S4x16x1x1024 ![0, 0, 128, 0] · slices_S4x16x144x1024_S4x16x1x1024_0_0_128_0) main_arg2
  let main_v10 : FVec F S4x16x1024 .bf16 := shapeCast S4x16x1024 main_v9 shapeCasts_S4x16x1x1024_S4x16x1024
  let main_v11 : FVec F S4x16x1024 .f32 := (extf .f32 · bitsLt_bf16_f32) main_v10
  let main_cst_1 : FVec F S_ .f32 := constant S_ .f32 0x3F800000#32
  let main_v12 : FVec F S4x16x1024 .f32 := broadcastInDim S4x16x1024 ![] bcast_S_S4x16x1024 main_cst_1
  let main_v13 : IVec S4x16x1024 1 := cmpf .oeq main_v11 main_v12
  let main_v14 : FVec F S128 .f32 := Host.absf main_arg3
  let main_cst_2 : FVec F S_ .f32 := constant S_ .f32 0x7F800000#32
  let main_v15 : FVec F S128 .f32 := broadcastInDim S128 ![] bcast_S_S128 main_cst_2
  let main_v16 : IVec S128 1 := cmpf .olt main_v14 main_v15
  (main_v4, main_v8, main_v13, main_v16)
-- ==== Kernel.lean ====
abbrev S16384x12800 : Shape := ⟨2, ![16384, 12800]⟩
abbrev S16384x512 : Shape := ⟨2, ![16384, 512]⟩
abbrev S4x16x144x1024 : Shape := ⟨4, ![4, 16, 144, 1024]⟩
abbrev S128 : Shape := ⟨1, ![128]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S128x16384 : Shape := ⟨2, ![128, 16384]⟩
abbrev S128x1 : Shape := ⟨2, ![128, 1]⟩
abbrev S16384x1536 : Shape := ⟨2, ![16384, 1536]⟩
abbrev S1024x128 : Shape := ⟨2, ![1024, 128]⟩
abbrev S1x16x144x1024 : Shape := ⟨4, ![1, 16, 144, 1024]⟩
abbrev S128x1024 : Shape := ⟨2, ![128, 1024]⟩
abbrev S1024x384 : Shape := ⟨2, ![1024, 384]⟩
abbrev S1x128x3072 : Shape := ⟨3, ![1, 128, 3072]⟩
abbrev S2x8x3072 : Shape := ⟨3, ![2, 8, 3072]⟩
abbrev S2x1x3072 : Shape := ⟨3, ![2, 1, 3072]⟩
abbrev S1x1x3072 : Shape := ⟨3, ![1, 1, 3072]⟩
abbrev S1x144x3072 : Shape := ⟨3, ![1, 144, 3072]⟩
abbrev S1024 : Shape := ⟨1, ![1024]⟩
abbrev S1x1024 : Shape := ⟨2, ![1, 1024]⟩
abbrev S32x1024 : Shape := ⟨2, ![32, 1024]⟩
abbrev S128x3072 : Shape := ⟨2, ![128, 3072]⟩
abbrev S1x128x1024 : Shape := ⟨3, ![1, 128, 1024]⟩
abbrev S144x3072 : Shape := ⟨2, ![144, 3072]⟩
abbrev S1024x3072 : Shape := ⟨2, ![1024, 3072]⟩
abbrev S1x1x144x1024 : Shape := ⟨4, ![1, 1, 144, 1024]⟩
abbrev S144x1024 : Shape := ⟨2, ![144, 1024]⟩

abbrev nBuf : Space → Nat
  | .hbm => 49
  | .vmem => 28
  | .smem => 0
  | _ => 0

abbrev bufTy : (tb : Table) → Fin (tcTables nBuf tb) → BufTy
  | .hbm, ⟨0, _⟩ => ⟨S16384x12800, .bf16⟩
  | .hbm, ⟨1, _⟩ => ⟨S16384x512, .bf16⟩
  | .hbm, ⟨2, _⟩ => ⟨S4x16x144x1024, .bf16⟩
  | .hbm, ⟨3, _⟩ => ⟨S128, .f32⟩
  | .hbm, ⟨4, _⟩ => ⟨S256, .i32⟩
  | .hbm, ⟨5, _⟩ => ⟨S256x64, .i32⟩
  | .hbm, ⟨6, _⟩ => ⟨S16384, .i32⟩
  | .hbm, ⟨7, _⟩ => ⟨S64, .i32⟩
  | .hbm, ⟨8, _⟩ => ⟨S1x64, .i32⟩
  | .hbm, ⟨9, _⟩ => ⟨S256x64, .i32⟩
  | .hbm, ⟨10, _⟩ => ⟨S16384, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S16384, .f32⟩
  | .hbm, ⟨26, _⟩ => ⟨S16384x1, .f32⟩
  | .hbm, ⟨27, _⟩ => ⟨S1x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384, .f32⟩
  | .hbm, ⟨32, _⟩ => ⟨S16384x1, .f32⟩
  | .hbm, ⟨33, _⟩ => ⟨S1x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S16384x128, .f32⟩
  | .hbm, ⟨42, _⟩ => ⟨S16384x32, .f32⟩
  | .hbm, ⟨43, _⟩ => ⟨S16384x32, .f32⟩
  | .hbm, ⟨44, _⟩ => ⟨S16384x128, .f32⟩
  | .hbm, ⟨45, _⟩ => ⟨S128x16384, .f32⟩
  | .hbm, ⟨46, _⟩ => ⟨S128x16384, .f32⟩
  | .hbm, ⟨47, _⟩ => ⟨S128x1, .f32⟩
  | .hbm, ⟨48, _⟩ => ⟨S16384x1536, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S16384x128, .bf16⟩
  | .local _ .vmem, ⟨13, _⟩ => ⟨S16384x128, .bf16⟩
  | .local _ .vmem, ⟨14, _⟩ => ⟨S1x16x144x1024, .bf16⟩
  | .local _ .vmem, ⟨15, _⟩ => ⟨S1x16x144x1024, .bf16⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1, .f32⟩
  | .local _ .vmem, ⟨21, _⟩ => ⟨S1024x384, .bf16⟩
  | .local _ .vmem, ⟨22, _⟩ => ⟨S1024x384, .bf16⟩
  | .local _ .vmem, ⟨23, _⟩ => ⟨S1x128x3072, .bf16⟩
  | .local _ .vmem, ⟨24, _⟩ => ⟨S2x8x3072, .f32⟩
  | .local _ .vmem, ⟨25, _⟩ => ⟨S2x1x3072, .f32⟩
  | .local _ .vmem, ⟨26, _⟩ => ⟨S1x1x3072, .f32⟩
  | .local _ .vmem, ⟨27, _⟩ => ⟨S1x144x3072, .f32⟩
  | _, _ => ⟨S16384x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_52 : BitVec 32 := 0#32
  let c4_i32 : BitVec 32 := 4#32
  let v115 : BitVec 32 := Scalar.addi c0_i32_52 c4_i32
  let c1_i32 : BitVec 32 := 1#32
  ⟨c0_i32_52, v115, c1_i32⟩
def k0_mult1 (k0_t1 : Fin k0_t1_loop.trips) : BitVec 32 :=
  let c0_i32_52 : BitVec 32 := 0#32
  let c1_i32 : BitVec 32 := 1#32
  let arg19 : BitVec 32 := Scf.iv c0_i32_52 c1_i32 k0_t1
  let c4_i32_94 : BitVec 32 := 4#32
  let v164 : BitVec 32 := Scalar.muli arg19 c4_i32_94
  let c1024_i32 : BitVec 32 := 1024#32
  let v165 : BitVec 32 := Scalar.muli v164 c1024_i32
  v165
def k0_off1 (k0_t1 : Fin k0_t1_loop.trips) : Fin 2 → Nat :=
  let c0_i32_52 : BitVec 32 := 0#32
  let c1_i32 : BitVec 32 := 1#32
  let arg19 : BitVec 32 := Scf.iv c0_i32_52 c1_i32 k0_t1
  let c4_i32_94 : BitVec 32 := 4#32
  let v164 : BitVec 32 := Scalar.muli arg19 c4_i32_94
  let c1024_i32 : BitVec 32 := 1024#32
  let v165 : BitVec 32 := Scalar.muli v164 c1024_i32
  let v166 : BitVec 32 := v165
  let v167 : Index := Scalar.indexCast v166
  let c0_95 : Index := 0#32
  ![v167.toNat, 0]
def k0_off2 (k0_t1 : Fin k0_t1_loop.trips) : Fin 4 → Nat :=
  let c0_99 : Index := 0#32
  let c0_i32_52 : BitVec 32 := 0#32
  let c1_i32 : BitVec 32 := 1#32
  let arg19 : BitVec 32 := Scf.iv c0_i32_52 c1_i32 k0_t1
  let c4_i32_94 : BitVec 32 := 4#32
  let v164 : BitVec 32 := Scalar.muli arg19 c4_i32_94
  let v173 : Index := Scalar.indexCast v164
  let c0_100 : Index := 0#32
  let c0_101 : Index := 0#32
  ![0, v173.toNat, 0, 0]
def k0_mult2 (k0_t1 : Fin k0_t1_loop.trips) : BitVec 32 :=
  let c0_i32_52 : BitVec 32 := 0#32
  let c1_i32 : BitVec 32 := 1#32
  let arg19 : BitVec 32 := Scf.iv c0_i32_52 c1_i32 k0_t1
  let c4_i32_103 : BitVec 32 := 4#32
  let v179 : BitVec 32 := Scalar.muli arg19 c4_i32_103
  let c1_i32_104 : BitVec 32 := 1#32
  let v180 : BitVec 32 := Scalar.addi v179 c1_i32_104
  let c1024_i32_105 : BitVec 32 := 1024#32
  let v181 : BitVec 32 := Scalar.muli v180 c1024_i32_105
  v181
def k0_off3 (k0_t1 : Fin k0_t1_loop.trips) (c1_i32_104 : BitVec 32) : Fin 2 → Nat :=
  let c0_i32_52 : BitVec 32 := 0#32
  let c1_i32 : BitVec 32 := 1#32
  let arg19 : BitVec 32 := Scf.iv c0_i32_52 c1_i32 k0_t1
  let c4_i32_103 : BitVec 32 := 4#32
  let v179 : BitVec 32 := Scalar.muli arg19 c4_i32_103
  let v180 : BitVec 32 := Scalar.addi v179 c1_i32_104
  let c1024_i32_105 : BitVec 32 := 1024#32
  let v181 : BitVec 32 := Scalar.muli v180 c1024_i32_105
  let v182 : BitVec 32 := v181
  let v183 : Index := Scalar.indexCast v182
  let c0_106 : Index := 0#32
  ![v183.toNat, 0]
def k0_off4 (k0_t1 : Fin k0_t1_loop.trips) (c1_i32_104 : BitVec 32) : Fin 4 → Nat :=
  let c0_110 : Index := 0#32
  let c0_i32_52 : BitVec 32 := 0#32
  let c1_i32 : BitVec 32 := 1#32
  let arg19 : BitVec 32 := Scf.iv c0_i32_52 c1_i32 k0_t1
  let c4_i32_103 : BitVec 32 := 4#32
  let v179 : BitVec 32 := Scalar.muli arg19 c4_i32_103
  let v180 : BitVec 32 := Scalar.addi v179 c1_i32_104
  let v189 : Index := Scalar.indexCast v180
  let c0_111 : Index := 0#32
  let c0_112 : Index := 0#32
  ![0, v189.toNat, 0, 0]
def k0_mult3 (k0_t1 : Fin k0_t1_loop.trips) : BitVec 32 :=
  let c0_i32_52 : BitVec 32 := 0#32
  let c1_i32 : BitVec 32 := 1#32
  let arg19 : BitVec 32 := Scf.iv c0_i32_52 c1_i32 k0_t1
  let c4_i32_114 : BitVec 32 := 4#32
  let v196 : BitVec 32 := Scalar.muli arg19 c4_i32_114
  let c2_i32 : BitVec 32 := 2#32
  let v197 : BitVec 32 := Scalar.addi v196 c2_i32
  let c1024_i32_115 : BitVec 32 := 1024#32
  let v198 : BitVec 32 := Scalar.muli v197 c1024_i32_115
  v198
def k0_mult4 (k0_t1 : Fin k0_t1_loop.trips) : BitVec 32 :=
  let c0_i32_52 : BitVec 32 := 0#32
  let c1_i32 : BitVec 32 := 1#32
  let arg19 : BitVec 32 := Scf.iv c0_i32_52 c1_i32 k0_t1
  let c4_i32_124 : BitVec 32 := 4#32
  let v213 : BitVec 32 := Scalar.muli arg19 c4_i32_124
  let c3_i32 : BitVec 32 := 3#32
  let v214 : BitVec 32 := Scalar.addi v213 c3_i32
  let c1024_i32_125 : BitVec 32 := 1024#32
  let v215 : BitVec 32 := Scalar.muli v214 c1024_i32_125
  v215
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c68_i32 : BitVec 32 := 68#32
  let v3 : BitVec 32 := Scalar.addi c68_i32 v2
  let c0_i32_0 : BitVec 32 := 0#32
  let v4 : BitVec 32 := Scalar.addi v3 c0_i32_0
  let c0_i32_1 : BitVec 32 := 0#32
  ![arg1.toNat, v4.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c68_i32 : BitVec 32 := 68#32
  let v3 : BitVec 32 := Scalar.addi c68_i32 v2
  let c1_i32_0 : BitVec 32 := 1#32
  let v4 : BitVec 32 := Scalar.addi v3 c1_i32_0
  let c0_i32_1 : BitVec 32 := 0#32
  ![arg1.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c68_i32 : BitVec 32 := 68#32
  let v3 : BitVec 32 := Scalar.addi c68_i32 v2
  let c2_i32 : BitVec 32 := 2#32
  let v4 : BitVec 32 := Scalar.addi v3 c2_i32
  let c0_i32_0 : BitVec 32 := 0#32
  ![arg1.toNat, v4.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c88_i32 : BitVec 32 := 88#32
  let v3 : BitVec 32 := Scalar.addi c88_i32 v2
  let c0_i32_0 : BitVec 32 := 0#32
  let v4 : BitVec 32 := Scalar.addi v3 c0_i32_0
  let c0_i32_1 : BitVec 32 := 0#32
  ![arg1.toNat, v4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c88_i32 : BitVec 32 := 88#32
  let v3 : BitVec 32 := Scalar.addi c88_i32 v2
  let c1_i32_0 : BitVec 32 := 1#32
  let v4 : BitVec 32 := Scalar.addi v3 c1_i32_0
  let c0_i32_1 : BitVec 32 := 0#32
  ![arg1.toNat, v4.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c3_i32 : BitVec 32 := 3#32
  let v2 : BitVec 32 := Scalar.muli v1 c3_i32
  let c88_i32 : BitVec 32 := 88#32
  let v3 : BitVec 32 := Scalar.addi c88_i32 v2
  let c2_i32 : BitVec 32 := 2#32
  let v4 : BitVec 32 := Scalar.addi v3 c2_i32
  let c0_i32_0 : BitVec 32 := 0#32
  ![arg1.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x144x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "scale2" => some (((Real.sqrt 128)⁻¹ * (Real.log 2)⁻¹ : ℝ) : EReal)
  | _ => none
-- ==== ReferenceIdeal.lean ====
abbrev S16384x12800 : Shape := ⟨2, ![16384, 12800]⟩
abbrev S16384x512 : Shape := ⟨2, ![16384, 512]⟩
abbrev S4x16x144x1024 : Shape := ⟨4, ![4, 16, 144, 1024]⟩
abbrev S128 : Shape := ⟨1, ![128]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1536 : Shape := ⟨2, ![16384, 1536]⟩
abbrev S16384x12x128 : Shape := ⟨3, ![16384, 12, 128]⟩
abbrev S16384x12 : Shape := ⟨2, ![16384, 12]⟩
abbrev S16384x12x1 : Shape := ⟨3, ![16384, 12, 1]⟩
abbrev S1x1x128 : Shape := ⟨3, ![1, 1, 128]⟩
abbrev S16384x12x64 : Shape := ⟨3, ![16384, 12, 64]⟩
abbrev S16384x12x32 : Shape := ⟨3, ![16384, 12, 32]⟩
abbrev S16384x1x32 : Shape := ⟨3, ![16384, 1, 32]⟩
abbrev S16384x4x3x128 : Shape := ⟨4, ![16384, 4, 3, 128]⟩
abbrev S16384x4x128 : Shape := ⟨3, ![16384, 4, 128]⟩
abbrev S4x16x128x1024 : Shape := ⟨4, ![4, 16, 128, 1024]⟩
abbrev S16x1024x4x128 : Shape := ⟨4, ![16, 1024, 4, 128]⟩
abbrev S4x16384x16384x3 : Shape := ⟨4, ![4, 16384, 16384, 3]⟩
abbrev S4x3x16384x16384 : Shape := ⟨4, ![4, 3, 16384, 16384]⟩
abbrev S4x3x16384 : Shape := ⟨3, ![4, 3, 16384]⟩
abbrev S4x3x16384x1 : Shape := ⟨4, ![4, 3, 16384, 1]⟩
abbrev S4x128x3x16384 : Shape := ⟨4, ![4, 128, 3, 16384]⟩

abbrev nBuf : Space → Nat
  | .hbm => 150
  | .vmem => 0
  | .smem => 0
  | _ => 0

abbrev hbmTy0_0 (i : Nat) : BufTy := match i % 128 with
  | 0 => ⟨S16384x12800, .bf16⟩
  | 1 => ⟨S16384x512, .bf16⟩
  | 2 => ⟨S4x16x144x1024, .bf16⟩
  | 3 => ⟨S128, .f32⟩
  | 4 => ⟨S256, .i32⟩
  | 5 => ⟨S256x64, .i32⟩
  | 6 => ⟨S16384, .i32⟩
  | 7 => ⟨S64, .i32⟩
  | 8 => ⟨S1x64, .i32⟩
  | 9 => ⟨S256x64, .i32⟩
  | 10 => ⟨S16384, .i32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S16384, .f32⟩
  | 26 => ⟨S16384x1, .f32⟩
  | 27 => ⟨S1x32, .f32⟩
  | 28 => ⟨S16384x32, .f32⟩
  | 29 => ⟨S16384x32, .f32⟩
  | 30 => ⟨S16384x32, .f32⟩
  | 31 => ⟨S16384x32, .f32⟩
  | 32 => ⟨S16384x32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S16384, .f32⟩
  | 48 => ⟨S16384x1, .f32⟩
  | 49 => ⟨S1x32, .f32⟩
  | 50 => ⟨S16384x32, .f32⟩
  | 51 => ⟨S16384x32, .f32⟩
  | 52 => ⟨S16384x32, .f32⟩
  | 53 => ⟨S16384x32, .f32⟩
  | 54 => ⟨S16384x32, .f32⟩
  | 55 => ⟨S16384x1536, .bf16⟩
  | 56 => ⟨S16384x1536, .f32⟩
  | 57 => ⟨S16384x12x128, .f32⟩
  | 58 => ⟨S16384x1536, .bf16⟩
  | 59 => ⟨S16384x1536, .f32⟩
  | 60 => ⟨S16384x12x128, .f32⟩
  | 61 => ⟨S_, .f32⟩
  | 62 => ⟨S16384x12, .f32⟩
  | 63 => ⟨S16384x12x1, .f32⟩
  | 64 => ⟨S_, .f32⟩
  | 65 => ⟨S16384x12x1, .f32⟩
  | 66 => ⟨S16384x12x1, .f32⟩
  | 67 => ⟨S_, .f32⟩
  | 68 => ⟨S16384x12x1, .f32⟩
  | 69 => ⟨S16384x12x1, .f32⟩
  | 70 => ⟨S16384x12x1, .f32⟩
  | 71 => ⟨S16384x12x128, .f32⟩
  | 72 => ⟨S16384x12x128, .f32⟩
  | 73 => ⟨S1x1x128, .f32⟩
  | 74 => ⟨S16384x12x128, .f32⟩
  | 75 => ⟨S16384x12x128, .f32⟩
  | 76 => ⟨S16384x12x64, .f32⟩
  | 77 => ⟨S16384x12x32, .f32⟩
  | 78 => ⟨S16384x12x32, .f32⟩
  | 79 => ⟨S16384x1x32, .f32⟩
  | 80 => ⟨S16384x1x32, .f32⟩
  | 81 => ⟨S16384x12x32, .f32⟩
  | 82 => ⟨S16384x12x32, .f32⟩
  | 83 => ⟨S16384x12x32, .f32⟩
  | 84 => ⟨S16384x12x32, .f32⟩
  | 85 => ⟨S16384x12x32, .f32⟩
  | 86 => ⟨S16384x12x32, .f32⟩
  | 87 => ⟨S16384x12x32, .f32⟩
  | 88 => ⟨S16384x12x32, .f32⟩
  | 89 => ⟨S16384x12x32, .f32⟩
  | 90 => ⟨S16384x12x32, .f32⟩
  | 91 => ⟨S16384x12x64, .f32⟩
  | 92 => ⟨S16384x12x64, .f32⟩
  | 93 => ⟨S16384x12x32, .f32⟩
  | 94 => ⟨S16384x12x32, .f32⟩
  | 95 => ⟨S16384x1x32, .f32⟩
  | 96 => ⟨S16384x1x32, .f32⟩
  | 97 => ⟨S16384x12x32, .f32⟩
  | 98 => ⟨S16384x12x32, .f32⟩
  | 99 => ⟨S16384x12x32, .f32⟩
  | 100 => ⟨S16384x12x32, .f32⟩
  | 101 => ⟨S16384x12x32, .f32⟩
  | 102 => ⟨S16384x12x32, .f32⟩
  | 103 => ⟨S16384x12x32, .f32⟩
  | 104 => ⟨S16384x12x32, .f32⟩
  | 105 => ⟨S16384x12x32, .f32⟩
  | 106 => ⟨S16384x12x32, .f32⟩
  | 107 => ⟨S16384x12x64, .f32⟩
  | 108 => ⟨S16384x12x128, .f32⟩
  | 109 => ⟨S16384x4x3x128, .f32⟩
  | 110 => ⟨S16384x512, .f32⟩
  | 111 => ⟨S16384x4x128, .f32⟩
  | 112 => ⟨S4x16x128x1024, .bf16⟩
  | 113 => ⟨S4x16x128x1024, .f32⟩
  | 114 => ⟨S16x1024x4x128, .f32⟩
  | 115 => ⟨S16384x4x128, .f32⟩
  | 116 => ⟨S4x16384x16384x3, .f32⟩
  | 117 => ⟨S4x3x16384x16384, .f32⟩
  | 118 => ⟨S_, .f32⟩
  | 119 => ⟨S_, .f32⟩
  | 120 => ⟨S4x3x16384x16384, .f32⟩
  | 121 => ⟨S4x3x16384x16384, .f32⟩
  | 122 => ⟨S_, .f32⟩
  | 123 => ⟨S4x3x16384, .f32⟩
  | 124 => ⟨S_, .f32⟩
  | 125 => ⟨S4x3x16384, .f32⟩
  | 126 => ⟨S4x3x16384, .f32⟩
  | 127 => ⟨S4x3x16384x1, .f32⟩
  | _ => ⟨S16384x12800, .bf16⟩

abbrev hbmTy0_1 (i : Nat) : BufTy := match i % 128 with
  | 0 => ⟨S4x3x16384x16384, .f32⟩
  | 1 => ⟨S4x3x16384x16384, .f32⟩
  | 2 => ⟨S4x3x16384x16384, .f32⟩
  | 3 => ⟨S_, .f32⟩
  | 4 => ⟨S4x3x16384, .f32⟩
  | 5 => ⟨S4x3x16384x1, .f32⟩
  | 6 => ⟨S4x3x16384x16384, .f32⟩
  | 7 => ⟨S4x3x16384x16384, .f32⟩
  | 8 => ⟨S4x128x3x16384, .f32⟩
  | 9 => ⟨S16384x4x3x128, .f32⟩
  | 10 => ⟨S16384x1536, .f32⟩
  | 11 => ⟨S16384x1536, .f32⟩
  | 12 => ⟨S16384x1536, .f32⟩
  | 13 => ⟨S_, .f32⟩
  | 14 => ⟨S16384x1536, .f32⟩
  | 15 => ⟨S16384x1536, .f32⟩
  | 16 => ⟨S_, .f32⟩
  | 17 => ⟨S16384x1536, .f32⟩
  | 18 => ⟨S16384x1536, .f32⟩
  | 19 => ⟨S16384x1536, .f32⟩
  | 20 => ⟨S16384x1536, .f32⟩
  | 21 => ⟨S16384x1536, .bf16⟩
  | _ => ⟨S16384x12800, .bf16⟩

abbrev hbmTy (i : Nat) : BufTy := match i / 128 with
  | 0 => hbmTy0_0 i
  | 1 => hbmTy0_1 i
  | _ => ⟨S16384x12800, .bf16⟩

abbrev bufTy : (tb : Table) → Fin (tcTables nBuf tb) → BufTy
  | .hbm, ⟨i, _⟩ => hbmTy i
  | _, _ => ⟨S16384x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_10 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_11 : Ref sig .tc := ⟨.hbm, 122, rfl⟩
abbrev main_v106 : Ref sig .tc := ⟨.hbm, 123, rfl⟩
abbrev main_cst_12 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_13 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_call0_v5 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩

abbrev nD : Nat := 1
abbrev τ : Topo := Topo.v7x

variable {F : FTy → Type} [FloatOps F]
-- ==== InProj.lean ====
abbrev S16384x4096 : Shape := ⟨2, ![16384, 4096]⟩
abbrev S4x4096x12800 : Shape := ⟨3, ![4, 4096, 12800]⟩
abbrev S16384x12800 : Shape := ⟨2, ![16384, 12800]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x12800, .f32⟩
  | .hbm, ⟨2, _⟩ => ⟨S16384x12800, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S16384x4096 : Shape := ⟨2, ![16384, 4096]⟩
abbrev S4x4096x12800 : Shape := ⟨3, ![4, 4096, 12800]⟩
abbrev S1x4096x12800 : Shape := ⟨3, ![1, 4096, 12800]⟩
abbrev S4096x12800 : Shape := ⟨2, ![4096, 12800]⟩
abbrev S16384x12800 : Shape := ⟨2, ![16384, 12800]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x12800, .f32⟩
  | .hbm, ⟨2, _⟩ => ⟨S16384x4096, .f32⟩
  | .hbm, ⟨3, _⟩ => ⟨S1x4096x12800, .f32⟩
  | .hbm, ⟨4, _⟩ => ⟨S4096x12800, .f32⟩
  | .hbm, ⟨5, _⟩ => ⟨S16384x12800, .f32⟩
  | .hbm, ⟨6, _⟩ => ⟨S16384x12800, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S16384x1536 : Shape := ⟨2, ![16384, 1536]⟩
abbrev S16384x1024 : Shape := ⟨2, ![16384, 1024]⟩
abbrev S4x4096x4096 : Shape := ⟨3, ![4, 4096, 4096]⟩
abbrev S16384x4096 : Shape := ⟨2, ![16384, 4096]⟩
abbrev S1024x1536 : Shape := ⟨2, ![1024, 1536]⟩
abbrev S1024x1024 : Shape := ⟨2, ![1024, 1024]⟩
abbrev S1x4096x512 : Shape := ⟨3, ![1, 4096, 512]⟩
abbrev S1024x512 : Shape := ⟨2, ![1024, 512]⟩
abbrev S4096x512 : Shape := ⟨2, ![4096, 512]⟩
abbrev S1536x512 : Shape := ⟨2, ![1536, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1536, .bf16⟩
  | .hbm, ⟨3, _⟩ => ⟨S4x4096x4096, .f32⟩
  | .hbm, ⟨4, _⟩ => ⟨S16384x4096, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1x4096x512, .f32⟩
  | .local _ .vmem, ⟨7, _⟩ => ⟨S1x4096x512, .f32⟩
  | .local _ .vmem, ⟨8, _⟩ => ⟨S1024x512, .bf16⟩
  | .local _ .vmem, ⟨9, _⟩ => ⟨S1024x512, .bf16⟩
  | .local _ .vmem, ⟨10, _⟩ => ⟨S4096x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16384x1536 : Shape := ⟨2, ![16384, 1536]⟩
abbrev S16384x1024 : Shape := ⟨2, ![16384, 1024]⟩
abbrev S4x4096x4096 : Shape := ⟨3, ![4, 4096, 4096]⟩
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1536, .bf16⟩
  | .hbm, ⟨3, _⟩ => ⟨S4x4096x4096, .f32⟩
  | .hbm, ⟨4, _⟩ => ⟨S16384x4096, .bf16⟩
  | .hbm, ⟨5, _⟩ => ⟨S16384x4096, .f32⟩
  | .hbm, ⟨6, _⟩ => ⟨S1x4096x4096, .f32⟩
  | .hbm, ⟨7, _⟩ => ⟨S4096x4096, .f32⟩
  | .hbm, ⟨8, _⟩ => ⟨S16384x4096, .f32⟩
  | .hbm, ⟨9, _⟩ => ⟨S16384x4096, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Modulation.lean ====
abbrev S1x4096 : Shape := ⟨2, ![1, 4096]⟩
abbrev S4x4096x12288 : Shape := ⟨3, ![4, 4096, 12288]⟩
abbrev S4x12288 : Shape := ⟨2, ![4, 12288]⟩
abbrev S4x1x12288 : Shape := ⟨3, ![4, 1, 12288]⟩
abbrev S1x4096x1024 : Shape := ⟨3, ![1, 4096, 1024]⟩
abbrev S1x1x1024 : Shape := ⟨3, ![1, 1, 1024]⟩
abbrev S8x4096 : Shape := ⟨2, ![8, 4096]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S4x4096x12288, .f32⟩
  | .hbm, ⟨2, _⟩ => ⟨S4x12288, .f32⟩
  | .hbm, ⟨3, _⟩ => ⟨S4x1x12288, .f32⟩
  | .hbm, ⟨4, _⟩ => ⟨S4x1x12288, .f32⟩
  | .local _ .vmem, ⟨0, _⟩ => ⟨S1x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S1x4096 : Shape := ⟨2, ![1, 4096]⟩
abbrev S4x4096x12288 : Shape := ⟨3, ![4, 4096, 12288]⟩
abbrev S4x12288 : Shape := ⟨2, ![4, 12288]⟩
abbrev S_ : Shape := ⟨0, ![]⟩
abbrev S1x4096x12288 : Shape := ⟨3, ![1, 4096, 12288]⟩
abbrev S4096x12288 : Shape := ⟨2, ![4096, 12288]⟩
abbrev S1x12288 : Shape := ⟨2, ![1, 12288]⟩
abbrev S12288 : Shape := ⟨1, ![12288]⟩
abbrev S1x1x12288 : Shape := ⟨3, ![1, 1, 12288]⟩
abbrev S4x1x12288 : Shape := ⟨3, ![4, 1, 12288]⟩

abbrev nBuf : Space → Nat
  | .hbm => 45
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4x4096x12288, .f32⟩
  | .hbm, ⟨2, _⟩ => ⟨S4x12288, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096x12288, .f32⟩
  | .hbm, ⟨13, _⟩ => ⟨S4096x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x4096x12288, .f32⟩
  | .hbm, ⟨20, _⟩ => ⟨S4096x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x4096x12288, .f32⟩
  | .hbm, ⟨27, _⟩ => ⟨S4096x12288, .f32⟩
  | .hbm, ⟨28, _⟩ => ⟨S1x12288, .f32⟩
  | .hbm, ⟨29, _⟩ => ⟨S1x12288, .f32⟩
  | .hbm, ⟨30, _⟩ => ⟨S12288, .f32⟩
  | .hbm, ⟨31, _⟩ => ⟨S1x12288, .f32⟩
  | .hbm, ⟨32, _⟩ => ⟨S1x12288, .f32⟩
  | .hbm, ⟨33, _⟩ => ⟨S1x4096x12288, .f32⟩
  | .hbm, ⟨34, _⟩ => ⟨S4096x12288, .f32⟩
  | .hbm, ⟨35, _⟩ => ⟨S1x12288, .f32⟩
  | .hbm, ⟨36, _⟩ => ⟨S1x12288, .f32⟩
  | .hbm, ⟨37, _⟩ => ⟨S12288, .f32⟩
  | .hbm, ⟨38, _⟩ => ⟨S1x12288, .f32⟩
  | .hbm, ⟨39, _⟩ => ⟨S1x12288, .f32⟩
  | .hbm, ⟨40, _⟩ => ⟨S1x1x12288, .f32⟩
  | .hbm, ⟨41, _⟩ => ⟨S1x1x12288, .f32⟩
  | .hbm, ⟨42, _⟩ => ⟨S1x1x12288, .f32⟩
  | .hbm, ⟨43, _⟩ => ⟨S1x1x12288, .f32⟩
  | .hbm, ⟨44, _⟩ => ⟨S4x1x12288, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Prenorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Postnorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S16384x4096 : Shape := ⟨2, ![16384, 4096]⟩
abbrev S4096 : Shape := ⟨1, ![4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Next.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S16384x4096, .f32⟩
  | .hbm, ⟨13, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NextRefIdeal.lean ====
abbrev S16384x4096 : Shape := ⟨2, ![16384, 4096]⟩
abbrev S4096 : Shape := ⟨1, ![4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S1x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Prep.lean ====
abbrev S16384x12800 : Shape := ⟨2, ![16384, 12800]⟩
abbrev S128 : Shape := ⟨1, ![128]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S128x16384 : Shape := ⟨2, ![128, 16384]⟩
abbrev S128x1 : Shape := ⟨2, ![128, 1]⟩
abbrev S12x32x144x512 : Shape := ⟨4, ![12, 32, 144, 512]⟩
abbrev S2x64x144x256 : Shape := ⟨4, ![2, 64, 144, 256]⟩
abbrev S4x16x144x1024 : Shape := ⟨4, ![4, 16, 144, 1024]⟩
abbrev S16384x512 : Shape := ⟨2, ![16384, 512]⟩
abbrev S16x8x128 : Shape := ⟨3, ![16, 8, 128]⟩
abbrev S1024x1536 : Shape := ⟨2, ![1024, 1536]⟩
abbrev S1024x256 : Shape := ⟨2, ![1024, 256]⟩
abbrev S1024x512 : Shape := ⟨2, ![1024, 512]⟩
abbrev S1024x1024 : Shape := ⟨2, ![1024, 1024]⟩
abbrev S128x1024 : Shape := ⟨2, ![128, 1024]⟩
abbrev S12x2x144x512 : Shape := ⟨4, ![12, 2, 144, 512]⟩
abbrev S2x4x144x256 : Shape := ⟨4, ![2, 4, 144, 256]⟩
abbrev S4x1x144x1024 : Shape := ⟨4, ![4, 1, 144, 1024]⟩
abbrev S1x8x128 : Shape := ⟨3, ![1, 8, 128]⟩
abbrev S1024x128 : Shape := ⟨2, ![1024, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S1x1x128x1024 : Shape := ⟨4, ![1, 1, 128, 1024]⟩
abbrev S16x1024 : Shape := ⟨2, ![16, 1024]⟩
abbrev S1x1x16x1024 : Shape := ⟨4, ![1, 1, 16, 1024]⟩
abbrev S1024 : Shape := ⟨1, ![1024]⟩
abbrev S1x1024 : Shape := ⟨2, ![1, 1024]⟩
abbrev S32x1024 : Shape := ⟨2, ![32, 1024]⟩
abbrev S128x128 : Shape := ⟨2, ![128, 128]⟩
abbrev S1x128 : Shape := ⟨2, ![1, 128]⟩
abbrev S4x128 : Shape := ⟨2, ![4, 128]⟩
abbrev S8x128 : Shape := ⟨2, ![8, 128]⟩

abbrev nBuf : Space → Nat
  | .hbm => 51
  | .vmem => 31
  | .smem => 0
  | _ => 0

abbrev bufTy : (tb : Table) → Fin (tcTables nBuf tb) → BufTy
  | .hbm, ⟨0, _⟩ => ⟨S16384x12800, .bf16⟩
  | .hbm, ⟨1, _⟩ => ⟨S128, .f32⟩
  | .hbm, ⟨2, _⟩ => ⟨S256, .i32⟩
  | .hbm, ⟨3, _⟩ => ⟨S256x64, .i32⟩
  | .hbm, ⟨4, _⟩ => ⟨S16384, .i32⟩
  | .hbm, ⟨5, _⟩ => ⟨S64, .i32⟩
  | .hbm, ⟨6, _⟩ => ⟨S1x64, .i32⟩
  | .hbm, ⟨7, _⟩ => ⟨S256x64, .i32⟩
  | .hbm, ⟨8, _⟩ => ⟨S16384, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S16384, .f32⟩
  | .hbm, ⟨24, _⟩ => ⟨S16384x1, .f32⟩
  | .hbm, ⟨25, _⟩ => ⟨S1x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384, .f32⟩
  | .hbm, ⟨30, _⟩ => ⟨S16384x1, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S16384x128, .f32⟩
  | .hbm, ⟨40, _⟩ => ⟨S16384x32, .f32⟩
  | .hbm, ⟨41, _⟩ => ⟨S16384x32, .f32⟩
  | .hbm, ⟨42, _⟩ => ⟨S16384x128, .f32⟩
  | .hbm, ⟨43, _⟩ => ⟨S128x16384, .f32⟩
  | .hbm, ⟨44, _⟩ => ⟨S128x16384, .f32⟩
  | .hbm, ⟨45, _⟩ => ⟨S128x1, .f32⟩
  | .hbm, ⟨46, _⟩ => ⟨S12x32x144x512, .bf16⟩
  | .hbm, ⟨47, _⟩ => ⟨S2x64x144x256, .bf16⟩
  | .hbm, ⟨48, _⟩ => ⟨S4x16x144x1024, .bf16⟩
  | .hbm, ⟨49, _⟩ => ⟨S16384x512, .bf16⟩
  | .hbm, ⟨50, _⟩ => ⟨S16x8x128, .f32⟩
  | .local _ .vmem, ⟨0, _⟩ => ⟨S1024x1536, .bf16⟩
  | .local _ .vmem, ⟨1, _⟩ => ⟨S1024x1536, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x1536, .bf16⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1, .f32⟩
  | .local _ .vmem, ⟨21, _⟩ => ⟨S12x2x144x512, .bf16⟩
  | .local _ .vmem, ⟨22, _⟩ => ⟨S12x2x144x512, .bf16⟩
  | .local _ .vmem, ⟨23, _⟩ => ⟨S2x4x144x256, .bf16⟩
  | .local _ .vmem, ⟨24, _⟩ => ⟨S2x4x144x256, .bf16⟩
  | .local _ .vmem, ⟨25, _⟩ => ⟨S4x1x144x1024, .bf16⟩
  | .local _ .vmem, ⟨26, _⟩ => ⟨S4x1x144x1024, .bf16⟩
  | .local _ .vmem, ⟨27, _⟩ => ⟨S1024x512, .bf16⟩
  | .local _ .vmem, ⟨28, _⟩ => ⟨S1024x512, .bf16⟩
  | .local _ .vmem, ⟨29, _⟩ => ⟨S1x8x128, .f32⟩
  | .local _ .vmem, ⟨30, _⟩ => ⟨S1x8x128, .f32⟩
  | _, _ => ⟨S16384x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40_0 : Ref sig .tc := ⟨.hbm, 46, rfl⟩
abbrev main_v40_1 : Ref sig .tc := ⟨.hbm, 47, rfl⟩
abbrev main_v40_2 : Ref sig .tc := ⟨.hbm, 48, rfl⟩
abbrev main_v40_3 : Ref sig .tc := ⟨.hbm, 49, rfl⟩
abbrev main_v40_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S12x2x144x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x144x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x144x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PrepRefIdeal.lean ====
abbrev S16384x12800 : Shape := ⟨2, ![16384, 12800]⟩
abbrev S128 : Shape := ⟨1, ![128]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1536 : Shape := ⟨2, ![16384, 1536]⟩
abbrev S16384x256 : Shape := ⟨2, ![16384, 256]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S16384x4x64 : Shape := ⟨3, ![16384, 4, 64]⟩
abbrev S16384x4x32 : Shape := ⟨3, ![16384, 4, 32]⟩
abbrev S16384x1x32 : Shape := ⟨3, ![16384, 1, 32]⟩
abbrev S32x512x12x128 : Shape := ⟨4, ![32, 512, 12, 128]⟩
abbrev S12x32x128x512 : Shape := ⟨4, ![12, 32, 128, 512]⟩
abbrev S12x32x16x512 : Shape := ⟨4, ![12, 32, 16, 512]⟩
abbrev S12x32x144x512 : Shape := ⟨4, ![12, 32, 144, 512]⟩
abbrev S64x256x2x128 : Shape := ⟨4, ![64, 256, 2, 128]⟩
abbrev S2x64x128x256 : Shape := ⟨4, ![2, 64, 128, 256]⟩
abbrev S2x64x16x256 : Shape := ⟨4, ![2, 64, 16, 256]⟩
abbrev S2x64x144x256 : Shape := ⟨4, ![2, 64, 144, 256]⟩
abbrev S16x1024x4x128 : Shape := ⟨4, ![16, 1024, 4, 128]⟩
abbrev S4x16x128x1024 : Shape := ⟨4, ![4, 16, 128, 1024]⟩
abbrev S4x16x16x1024 : Shape := ⟨4, ![4, 16, 16, 1024]⟩
abbrev S4x16x144x1024 : Shape := ⟨4, ![4, 16, 144, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16384x12800, .bf16⟩
  | .hbm, ⟨1, _⟩ => ⟨S128, .f32⟩
  | .hbm, ⟨2, _⟩ => ⟨S16384x12800, .f32⟩
  | .hbm, ⟨3, _⟩ => ⟨S256, .i32⟩
  | .hbm, ⟨4, _⟩ => ⟨S256x64, .i32⟩
  | .hbm, ⟨5, _⟩ => ⟨S16384, .i32⟩
  | .hbm, ⟨6, _⟩ => ⟨S64, .i32⟩
  | .hbm, ⟨7, _⟩ => ⟨S1x64, .i32⟩
  | .hbm, ⟨8, _⟩ => ⟨S256x64, .i32⟩
  | .hbm, ⟨9, _⟩ => ⟨S16384, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S16384, .f32⟩
  | .hbm, ⟨25, _⟩ => ⟨S16384x1, .f32⟩
  | .hbm, ⟨26, _⟩ => ⟨S1x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S16384, .f32⟩
  | .hbm, ⟨47, _⟩ => ⟨S16384x1, .f32⟩
  | .hbm, ⟨48, _⟩ => ⟨S1x32, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x1536, .f32⟩
  | .hbm, ⟨55, _⟩ => ⟨S16384x256, .f32⟩
  | .hbm, ⟨56, _⟩ => ⟨S16384x512, .f32⟩
  | .hbm, ⟨57, _⟩ => ⟨S16384x512, .f32⟩
  | .hbm, ⟨58, _⟩ => ⟨S16384x4x128, .f32⟩
  | .hbm, ⟨59, _⟩ => ⟨S16384x4x128, .f32⟩
  | .hbm, ⟨60, _⟩ => ⟨S_, .f32⟩
  | .hbm, ⟨61, _⟩ => ⟨S16384x4, .f32⟩
  | .hbm, ⟨62, _⟩ => ⟨S16384x4x1, .f32⟩
  | .hbm, ⟨63, _⟩ => ⟨S_, .f32⟩
  | .hbm, ⟨64, _⟩ => ⟨S16384x4x1, .f32⟩
  | .hbm, ⟨65, _⟩ => ⟨S16384x4x1, .f32⟩
  | .hbm, ⟨66, _⟩ => ⟨S_, .f32⟩
  | .hbm, ⟨67, _⟩ => ⟨S16384x4x1, .f32⟩
  | .hbm, ⟨68, _⟩ => ⟨S16384x4x1, .f32⟩
  | .hbm, ⟨69, _⟩ => ⟨S16384x4x1, .f32⟩
  | .hbm, ⟨70, _⟩ => ⟨S16384x4x128, .f32⟩
  | .hbm, ⟨71, _⟩ => ⟨S16384x4x128, .f32⟩
  | .hbm, ⟨72, _⟩ => ⟨S1x1x128, .f32⟩
  | .hbm, ⟨73, _⟩ => ⟨S16384x4x128, .f32⟩
  | .hbm, ⟨74, _⟩ => ⟨S16384x4x128, .f32⟩
  | .hbm, ⟨75, _⟩ => ⟨S16384x4x64, .f32⟩
  | .hbm, ⟨76, _⟩ => ⟨S16384x4x32, .f32⟩
  | .hbm, ⟨77, _⟩ => ⟨S16384x4x32, .f32⟩
  | .hbm, ⟨78, _⟩ => ⟨S16384x1x32, .f32⟩
  | .hbm, ⟨79, _⟩ => ⟨S16384x1x32, .f32⟩
  | .hbm, ⟨80, _⟩ => ⟨S16384x4x32, .f32⟩
  | .hbm, ⟨81, _⟩ => ⟨S16384x4x32, .f32⟩
  | .hbm, ⟨82, _⟩ => ⟨S16384x4x32, .f32⟩
  | .hbm, ⟨83, _⟩ => ⟨S16384x4x32, .f32⟩
  | .hbm, ⟨84, _⟩ => ⟨S16384x4x32, .f32⟩
  | .hbm, ⟨85, _⟩ => ⟨S16384x4x32, .f32⟩
  | .hbm, ⟨86, _⟩ => ⟨S16384x4x32, .f32⟩
  | .hbm, ⟨87, _⟩ => ⟨S16384x4x32, .f32⟩
  | .hbm, ⟨88, _⟩ => ⟨S16384x4x32, .f32⟩
  | .hbm, ⟨89, _⟩ => ⟨S16384x4x32, .f32⟩
  | .hbm, ⟨90, _⟩ => ⟨S16384x4x64, .f32⟩
  | .hbm, ⟨91, _⟩ => ⟨S16384x4x64, .f32⟩
  | .hbm, ⟨92, _⟩ => ⟨S16384x4x32, .f32⟩
  | .hbm, ⟨93, _⟩ => ⟨S16384x4x32, .f32⟩
  | .hbm, ⟨94, _⟩ => ⟨S16384x1x32, .f32⟩
  | .hbm, ⟨95, _⟩ => ⟨S16384x1x32, .f32⟩
  | .hbm, ⟨96, _⟩ => ⟨S16384x4x32, .f32⟩
  | .hbm, ⟨97, _⟩ => ⟨S16384x4x32, .f32⟩
  | .hbm, ⟨98, _⟩ => ⟨S16384x4x32, .f32⟩
  | .hbm, ⟨99, _⟩ => ⟨S16384x4x32, .f32⟩
  | .hbm, ⟨100, _⟩ => ⟨S16384x4x32, .f32⟩
  | .hbm, ⟨101, _⟩ => ⟨S16384x4x32, .f32⟩
  | .hbm, ⟨102, _⟩ => ⟨S16384x4x32, .f32⟩
  | .hbm, ⟨103, _⟩ => ⟨S16384x4x32, .f32⟩
  | .hbm, ⟨104, _⟩ => ⟨S16384x4x32, .f32⟩
  | .hbm, ⟨105, _⟩ => ⟨S16384x4x32, .f32⟩
  | .hbm, ⟨106, _⟩ => ⟨S16384x4x64, .f32⟩
  | .hbm, ⟨107, _⟩ => ⟨S16384x4x128, .f32⟩
  | .hbm, ⟨108, _⟩ => ⟨S16384x512, .f32⟩
  | .hbm, ⟨109, _⟩ => ⟨S32x512x12x128, .f32⟩
  | .hbm, ⟨110, _⟩ => ⟨S12x32x128x512, .f32⟩
  | .hbm, ⟨111, _⟩ => ⟨S_, .f32⟩
  | .hbm, ⟨112, _⟩ => ⟨S12x32x16x512, .f32⟩
  | .hbm, ⟨113, _⟩ => ⟨S12x32x144x512, .f32⟩
  | .hbm, ⟨114, _⟩ => ⟨S12x32x144x512, .bf16⟩
  | .hbm, ⟨115, _⟩ => ⟨S64x256x2x128, .f32⟩
  | .hbm, ⟨116, _⟩ => ⟨S2x64x128x256, .f32⟩
  | .hbm, ⟨117, _⟩ => ⟨S_, .f32⟩
  | .hbm, ⟨118, _⟩ => ⟨S2x64x16x256, .f32⟩
  | .hbm, ⟨119, _⟩ => ⟨S2x64x144x256, .f32⟩
  | .hbm, ⟨120, _⟩ => ⟨S2x64x144x256, .bf16⟩
  | .hbm, ⟨121, _⟩ => ⟨S16x1024x4x128, .f32⟩
  | .hbm, ⟨122, _⟩ => ⟨S4x16x128x1024, .f32⟩
  | .hbm, ⟨123, _⟩ => ⟨S_, .f32⟩
  | .hbm, ⟨124, _⟩ => ⟨S4x16x16x1024, .f32⟩
  | .hbm, ⟨125, _⟩ => ⟨S4x16x144x1024, .f32⟩
  | .hbm, ⟨126, _⟩ => ⟨S4x16x144x1024, .bf16⟩
  | .hbm, ⟨127, _⟩ => ⟨S16384x512, .bf16⟩
  | _, _ => ⟨S16384x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_cst_8 : Ref sig .tc := ⟨.hbm, 63, rfl⟩
abbrev main_v52 : Ref sig .tc := ⟨.hbm, 64, rfl⟩
abbrev main_v53 : Ref sig .tc := ⟨.hbm, 65, rfl⟩
abbrev main_cst_9 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_10 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_11 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_12 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩

abbrev nD : Nat := 1
abbrev τ : Topo := Topo.v7x

variable {F : FTy → Type} [FloatOps F]
-- ==== Proof.InProjValue.lean ====
/-
  The in-projection. The kernel multiplies one [1024, 4096] block of rows by one [4096, 512] block of columns of the
  stacked weights at each grid point; the blocks tile the result, and every block is the product of the whole arrays
  read at the block's place.
-/
module

public import proofs.«01_k».proof.Defs
public import proofs.«01_k».proof.Proof.Gen.InProjIdeal.Value
public import proofs.«01_k».proof.Proof.Gen.InRefIdeal.Run
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.InProjection

open Cert.InProjIdeal Cert.InProjIdeal.Gen

variable (m : (ℓ : Loc nD τ sig) → Buf (Elt Ideal) ℓ)

/-- The reference's result over the two argument arrays. -/
abbrev product (h : FVec Ideal S16384x4096 .bf16) (w : FVec Ideal S4x4096x12800 .f32) : FVec Ideal S16384x12800 .bf16 :=
  truncf .bf16 (Host.dotGeneral Cert.InRefIdeal.dot_S16384x4096_S4096x12800_S16384x12800_1_0_0_1_n_n none
    (extf .f32 h Cert.InRefIdeal.Gen.bitsLt_bf16_f32)
    (shapeCast _ (extractStridedSlice Cert.InRefIdeal.S1x4096x12800 ![0, 0, 0] w
      Cert.InRefIdeal.Gen.slices_S4x4096x12800_S1x4096x12800_0_0_0)
      Cert.InRefIdeal.Gen.shapeCasts_S1x4096x12800_S4096x12800)) Cert.InRefIdeal.Gen.bitsLt_bf16_f32

/-- Which block each window takes at each point of the grid. -/
theorem block_index : ∀ t : Fin cfg0.N, win0_0.index t = ![(grid0.coords t 0).val, 0]
    ∧ win0_1.index t = ![0, 0, (grid0.coords t 1).val]
    ∧ win0_2.index t = ![(grid0.coords t 0).val, (grid0.coords t 1).val] :=
  (by decide +kernel : ∀ t : Fin grid0.N, _)

/-- What a point stores at an index of its block is the product at the index's place in the array. -/
theorem block_value (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  pointwise [k0_pay1, product]
  blk_point [iblk, V, block_index t]

/-- The result array after the run is the product of the two argument arrays. -/
theorem result_eq (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact block_value m c t y

end Cert.Proof.InProjection

namespace Cert.Proof

/-- The in-projection kernel and its reference leave the same result and keep their arguments. -/
theorem in_projection : Cert.algebraic_InProjIdeal_InRefIdeal := by
  intro m ρ m' ρ' _ hagree
  refine ⟨_, Cert.InProjIdeal.Value.run_blocks m ρ, ?_⟩
  refine (θ_run Cert.InRefIdeal.defs _ _).mono (fun _ h c => ⟨(h c).1.trans ?_, (h c).2⟩)
    (Cert.InRefIdeal.Value.run (F := Ideal) m' ρ')
  rw [(hagree c).1, (hagree c).2]
  exact (InProjection.result_eq m c).symm

end Cert.Proof

end
-- ==== Proof.OutProjValue.lean ====
/-
  The out-projection. The kernel converts one [4096, 512] block of columns of the stacked weights into a scratch at the
  first of sixteen points and reads it at all sixteen; each point adds the three products of the three attention results
  with the matching rows of the scratch. Joined along the contracted axis, the three products are the one product of the
  concatenated results.
-/
module

public import proofs.«01_k».proof.Defs
public import proofs.«01_k».proof.Proof.Gen.OutProjIdeal.Value
public import proofs.«01_k».proof.Proof.Gen.OutRefIdeal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.OutProjection

open Cert.OutProjIdeal Cert.OutProjIdeal.Gen

variable (m : (ℓ : Loc nD τ sig) → Buf (Elt Ideal) ℓ)

/-- The reference's result over the four argument arrays. -/
abbrev product (a : FVec Ideal S16384x1536 .bf16) (b : FVec Ideal S16384x1024 .bf16) (d : FVec Ideal S16384x1536 .bf16)
    (w : FVec Ideal S4x4096x4096 .f32) : FVec Ideal S16384x4096 .bf16 :=
  truncf .bf16 (Host.dotGeneral Cert.OutRefIdeal.dot_S16384x4096_S4096x4096_S16384x4096_1_0_0_1_n_n none
    (extf .f32 (concatenate Cert.OutRefIdeal.S16384x4096 1
      [⟨Cert.OutRefIdeal.S16384x1536, a⟩, ⟨Cert.OutRefIdeal.S16384x1024, b⟩, ⟨Cert.OutRefIdeal.S16384x1536, d⟩]
      Cert.OutRefIdeal.Gen.concatenates_S16384x1536_S16384x1024_S16384x1536_S16384x4096_d1 : FVec Ideal S16384x4096 .bf16)
      Cert.OutRefIdeal.Gen.bitsLt_bf16_f32)
    (shapeCast _ (extractStridedSlice Cert.OutRefIdeal.S1x4096x4096 ![0, 0, 0] w
      Cert.OutRefIdeal.Gen.slices_S4x4096x4096_S1x4096x4096_0_0_0)
      Cert.OutRefIdeal.Gen.shapeCasts_S1x4096x4096_S4096x4096)) Cert.OutRefIdeal.Gen.bitsLt_bf16_f32

/-- Which block each window takes at each point of the grid. -/
theorem block_index : ∀ t : Fin cfg0.N, win0_0.index t = ![t.val % 16, 0]
    ∧ win0_1.index t = ![t.val % 16, 0]
    ∧ win0_2.index t = ![t.val % 16, 0]
    ∧ win0_3.index t = ![0, 0, t.val / 16]
    ∧ win0_4.index t = ![t.val % 16, t.val / 16] :=
  (by decide +kernel : ∀ t : Fin grid0.N, _)

/-- The sixteen points of a run read one block of the weights. -/
theorem weights_block (c : Dev nD) (t : Fin cfg0.N) :
    (iblk m c 3 ⟨16 * (t.val / 16), Pipeline.run_start_lt t⟩ : Vec Ideal S1x4096x512 .f32) = iblk m c 3 t := by
  have h0 : (16 * (t.val / 16)) / 16 = t.val / 16 := by omega
  funext y
  blk_ext! [iblk, V, block_index t, block_index ⟨16 * (t.val / 16), Pipeline.run_start_lt t⟩]

/-- What the scratch holds after every point: the converted block of the weights. -/
theorem scratch_eq (c : Dev nD) (t : Fin cfg0.N) :
    (outsAt0 m c t.val t.isLt).2 = k0_pay1 (F := Ideal) (iblk m c 3 t) := by
  rw [← weights_block m c t]
  refine Pipeline.eq_of_write_hold (fun n h => (outsAt0 m c n h).2) 16
    (fun t => k0_pay1 (F := Ideal) (iblk m c 3 t)) (fun t h => ?_) (fun t h => ?_) t
  · show (outsAt0 m c t.val t.isLt).2 = _
    rw [outsAt0_A m c t h]; frame_out
  · show (outsAt0 m c t.val t.isLt).2 = _
    rw [outsAt0_B m c t h]; rfl

/-- What a point stores, over the scratch it reads. -/
abbrev stored (c : Dev nD) (t : Fin cfg0.N) (W : Vec Ideal S4096x512 .bf16) : FVec Ideal S1024x512 .bf16 :=
  k0_pay2 (F := Ideal) (iblk m c 0 t)
    (View.ld W (Rect.unit (s := S4096x512) ![0, 0] S1536x512.size inb_S4096x512_S1536x512_0_0))
    (iblk m c 1 t)
    (View.ld W (Rect.unit (s := S4096x512) ![1536, 0] S1024x512.size inb_S4096x512_S1024x512_1536_0))
    (iblk m c 2 t)
    (View.ld W (Rect.unit (s := S4096x512) ![2560, 0] S1536x512.size inb_S4096x512_S1536x512_2560_0))

/-- At every point the output's block is what is stored over the converted weights. -/
theorem outs_eq (c : Dev nD) (t : Fin cfg0.N) :
    (outsAt0 m c t.val t.isLt).1 = stored m c t (k0_pay1 (F := Ideal) (iblk m c 3 t)) := by
  by_cases h : t.val % 16 = 0
  · rw [outsAt0_A m c t h]; frame_out
    simp (disch := decide) only [View.readCov_fill]
  · have hp : (outsAt0 m c (t.val - 1) (Nat.lt_of_le_of_lt (Nat.sub_le _ _) t.isLt)).2
        = k0_pay1 (F := Ideal) (iblk m c 3 t) := by
      rw [← scratch_eq m c t, outsAt0_B m c t h]; rfl
    rw [outsAt0_B m c t h, hp]; frame_out
    simp only [read_unread_whole]

/-- A sum over the joined axis is the sum over its three parts. -/
theorem sum_three_parts {M : Type} [AddCommMonoid M] (f : Fin 4096 → M) :
    ∑ x, f x = ∑ x : Fin 1536, f ⟨x.val, by omega⟩ + ∑ x : Fin 1024, f ⟨1536 + x.val, by omega⟩
      + ∑ x : Fin 1536, f ⟨2560 + x.val, by omega⟩ := by
  have h := Fin.sum_univ_add (a := 2560) (b := 1536) f
  have h' := Fin.sum_univ_add (a := 1536) (b := 1024) fun i => f (Fin.castAdd 1536 i)
  rw [h, h']
  rfl

/-- What a point stores at an index of its block is the product at the index's place in the array. -/
theorem block_value (c : Dev nD) (t : Fin cfg0.N) (y) : stored m c t (k0_pay1 (F := Ideal) (iblk m c 3 t)) y
    = product (m ((c : Thread nD τ).loc main_arg0)) (m ((c : Thread nD τ).loc main_arg1))
        (m ((c : Thread nD τ).loc main_arg2)) (m ((c : Thread nD τ).loc main_arg3))
        (((cfg0.win 4).blk t).view.emb y) := by
  pointwise [k0_pay1, k0_pay2, product]
  rw [sum_three_parts]
  simp (disch := omega) only [dif_pos, dif_neg, Nat.add_sub_cancel_left, Nat.not_lt]
  blk_point [iblk, V, block_index t]

/-- The result array after the run is the product of the argument arrays. -/
theorem result_eq (c : Dev nD) : (dats m 0 c).arrAt 4 (cfgs 0).N
    = product (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, outs_eq]
  exact block_value m c t y

end Cert.Proof.OutProjection

namespace Cert.Proof

/-- The out-projection kernel and its reference leave the same result and keep their arguments. -/
theorem out_projection : Cert.algebraic_OutProjIdeal_OutRefIdeal := by
  intro m ρ m' ρ' _ hagree
  refine ⟨_, Cert.OutProjIdeal.Value.run_blocks m ρ, ?_⟩
  refine (θ_run Cert.OutRefIdeal.defs _ _).mono (fun _ h c => ⟨(h c).1.trans ?_, (h c).2⟩)
    (Cert.OutRefIdeal.Value.run (F := Ideal) m' ρ')
  rw [(hagree c).1, (hagree c).2.1, (hagree c).2.2.1, (hagree c).2.2.2]
  exact (OutProjection.result_eq m c).symm

end Cert.Proof

end
-- ==== Proof.DenseLoop.lean ====
module
public import proofs.«01_k».proof.Proof.Gen.KernelIdeal.Value
public import Idealize.ShloMosaic.Lib.Pipeline.ValueKit
public import Idealize.ShloMosaic.Lib.Pipeline.ReadBack
public import Idealize.ShloMosaic.Lib.VecWindow
@[expose] public section
set_option maxRecDepth 16384
noncomputable section
namespace Cert.Proof.Dense
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)
/-- What the 1024 keys of block `b` add to entry `(e, y)` of the running sums: the values' entries `e`, each
weighted by two to the power of its score. -/
def part (K : Vec Ideal S16384x128 .bf16) (V : Vec Ideal S1x16x144x1024 .bf16) (q : Vec Ideal S1x128x3072 .bf16)
    (b : Fin 16) (e : Fin 144) (y : Fin 3072) : EReal :=
  ∑ s : Fin 1024, V (ix4 (0 : Fin 1) b e s) *
    FloatOps.exp2 (F := Ideal) (φ := .f32) (∑ d : Fin 128, K (ix2 (⟨1024 * b.val + s.val, by omega⟩ : Fin 16384) d) * q (ix3 (0 : Fin 1) d y))

/-- The loop makes four trips at most. -/
theorem trips_lt (k : Fin k0_t1_loop.trips) : k.val < 4 := Nat.lt_of_lt_of_le k.isLt k0_t1_abs.2.1

/-- The running sums after one trip. -/
def tripOut (K : Vec Ideal S16384x128 .bf16) (V : Vec Ideal S1x16x144x1024 .bf16) (q : Vec Ideal S1x128x3072 .bf16)
    (k : Fin k0_t1_loop.trips) (a : Vec Ideal S1x144x3072 .f32) : Vec Ideal S1x144x3072 .f32 := fun x =>
  have h := trips_lt k
  a x + (part K V q ⟨4 * k.val, by omega⟩ (x 1) (x 2) + part K V q ⟨4 * k.val + 1, by omega⟩ (x 1) (x 2)
    + part K V q ⟨4 * k.val + 2, by omega⟩ (x 1) (x 2) + part K V q ⟨4 * k.val + 3, by omega⟩ (x 1) (x 2))

/-- Where a trip reads its four blocks of keys. -/
theorem key_rows : ∀ k : Fin k0_t1_loop.trips, k0_off1 k = ![4096 * k.val, 0] ∧ k0_off3 k 1#32 = ![4096 * k.val + 1024, 0]
    ∧ k0_off3 k 2#32 = ![4096 * k.val + 2048, 0] ∧ k0_off3 k 3#32 = ![4096 * k.val + 3072, 0] := by decide +kernel

/-- Where a trip reads its four blocks of values. -/
theorem value_blocks : ∀ k : Fin k0_t1_loop.trips, k0_off2 k = ![0, 4 * k.val, 0, 0] ∧ k0_off4 k 1#32 = ![0, 4 * k.val + 1, 0, 0]
    ∧ k0_off4 k 2#32 = ![0, 4 * k.val + 2, 0, 0] ∧ k0_off4 k 3#32 = ![0, 4 * k.val + 3, 0, 0] := by decide +kernel

/-- One trip writes the whole accumulator: what stood there and the sums over the trip's keys. -/
theorem trip_pieces (c : Dev nD) (t : Fin cfg0.N) (x14 f) (k : Fin k0_t1_loop.trips) : tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) 0#32 ((hs0_6 t).unread (iblk m c 6 t)) ((hs0_7 t).unread (iblk m c 7 t)) x14 k f = [⟨Rect.unit ![0, 0, 0] ![1, 144, 3072] inb_S1x144x3072_S1x144x3072_0_0_0, tripOut (iblk m c 6 t) (iblk m c 7 t) ((View.whole cc0_scratch0).read (Elt Ideal) x14) k ((View.whole cc0_scratch4).read (Elt Ideal) f)⟩] := by
  have h := trips_lt k
  unfold tripL_k0_t1 trip_k0_t1
  dsimp only
  frame_out
  refine congrArg (fun w => [(⟨Rect.unit ![0, 0, 0] ![1, 144, 3072] inb_S1x144x3072_S1x144x3072_0_0_0, w⟩ : View.Piece (Elt Ideal) S1x144x3072 .f32)]) ?_
  funext x
  obtain ⟨a1, a2, a3, a4⟩ := key_rows k
  obtain ⟨b1, b2, b3, b4⟩ := value_blocks k
  idx_vars x
  unfold tripOut part
  pointwise [k0_pay10]
  blk_point [a1, a2, a3, a4, b1, b2, b3, b4]

/-- The running sums after the first `n` trips. -/
def sums (K : Vec Ideal S16384x128 .bf16) (V : Vec Ideal S1x16x144x1024 .bf16) (q : Vec Ideal S1x128x3072 .bf16) :
    ℕ → Vec Ideal S1x144x3072 .f32
  | 0 => fun _ => 0
  | n + 1 => if h : n < k0_t1_loop.trips then tripOut K V q ⟨n, h⟩ (sums K V q n) else sums K V q n

/-- After `n` trips from an accumulator of zeros, the last trip's piece holds the sums over the keys of all of them. -/
theorem loop_pieces (c : Dev nD) (t : Fin cfg0.N) (x14 G) (hG : (View.whole cc0_scratch4).read (Elt Ideal) G = (fun _ => 0 : Vec Ideal S1x144x3072 .f32)) (n : ℕ) (hn : n ≤ 4) :
    (View.whole cc0_scratch4).read (Elt Ideal) ((View.whole cc0_scratch4).writes (Elt Ideal) G (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) 0#32 ((hs0_6 t).unread (iblk m c 6 t)) ((hs0_7 t).unread (iblk m c 7 t)) x14 G n))
      = sums (iblk m c 6 t) (iblk m c 7 t) ((View.whole cc0_scratch0).read (Elt Ideal) x14) n := by
  induction n with
  | zero => exact hG
  | succ n ih =>
    have h : n < k0_t1_loop.trips := by have : k0_t1_loop.trips = 4 := by decide +kernel
                                        omega
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) 0#32 ((hs0_6 t).unread (iblk m c 6 t)) ((hs0_7 t).unread (iblk m c 7 t)) x14 G ⟨n, h⟩
    rw [e, trip_pieces m c t, List.singleton_append]
    rw [sums, dif_pos h]
    exact (View.read_writes_full (View.whole cc0_scratch4) _ _ _ _).trans (congrArg _ (ih (by omega)))

/-- After the four trips the accumulator holds the sums over all keys. -/
theorem loop_last (c : Dev nD) (t : Fin cfg0.N) (x14 G) (hG : (View.whole cc0_scratch4).read (Elt Ideal) G = (fun _ => 0 : Vec Ideal S1x144x3072 .f32)) :
    ∃ L, pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) 0#32 ((hs0_6 t).unread (iblk m c 6 t)) ((hs0_7 t).unread (iblk m c 7 t)) x14 G (Scf.trips (0#32) (Scalar.addi 0#32 4#32) 1#32) =
      ⟨Rect.unit ![0, 0, 0] ![1, 144, 3072] inb_S1x144x3072_S1x144x3072_0_0_0, sums (iblk m c 6 t) (iblk m c 7 t) ((View.whole cc0_scratch0).read (Elt Ideal) x14) 4⟩ :: L := by
  have h : 3 < k0_t1_loop.trips := by decide +kernel
  have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) 0#32 ((hs0_6 t).unread (iblk m c 6 t)) ((hs0_7 t).unread (iblk m c 7 t)) x14 G ⟨3, h⟩
  rw [trip_pieces m c t, List.singleton_append, loop_pieces m c t x14 G hG 3 (by omega)] at e
  rw [sums, dif_pos h]
  exact ⟨_, e⟩

/-- The three query heads of a block, normalised, rotated and scaled, side by side. -/
def queries (c : Dev nD) (t : Fin cfg0.N) : Vec Ideal S1x128x3072 .bf16 := View.canon
  [⟨Rect.unit ![0, 0, 2048] ![1, 128, 1024] inb_S1x128x3072_S1x128x1024_0_0_2048,
      k0_pay8 (k0_pay7 (iblk m c 2 t)) (iblk m c 10 t) (iblk m c 8 t) (iblk m c 9 t)⟩,
    ⟨Rect.unit ![0, 0, 1024] ![1, 128, 1024] inb_S1x128x3072_S1x128x1024_0_0_1024,
      k0_pay6 (iblk m c 1 t) (iblk m c 10 t) (iblk m c 8 t) (iblk m c 9 t)⟩,
    ⟨Rect.unit ![0, 0, 0] ![1, 128, 1024] inb_S1x128x3072_S1x128x1024_0_0_0,
      k0_pay5 (iblk m c 0 t) (iblk m c 10 t) (iblk m c 8 t) (iblk m c 9 t)⟩]

/-- The sums over all the keys. -/
def total (c : Dev nD) (t : Fin cfg0.N) : Vec Ideal S1x144x3072 .f32 := sums (iblk m c 6 t) (iblk m c 7 t) (queries m c t) 4

/-- A load of some rows and columns of the running sums after they were stored whole reads them there. -/
theorem load_part {sig' : RefSig} {κ' : Kind} {sp : Space} (v : View sig' κ' sp S1x144x3072 .f32) (Z : Vec Ideal S1x144x3072 .f32)
    (L : List (View.Piece (Elt Ideal) S1x144x3072 .f32)) (inb) (inb2) {o sz : Fin 2 → ℕ} (inb' : ∀ a, o a + sz a ≤ S144x3072.size a) (h0 hs hu)
    (hR) (j : (Rect.unit (s := S144x3072) o sz inb').toLoadRect.shape.Idx) :
    LoadRect.valAlong (lr := (Rect.unit (s := S144x3072) o sz inb').toLoadRect) hR
      (v.readCov (⟨Rect.unit ![0, 0, 0] ![1, 144, 3072] inb, Z⟩ :: L)
        ((Rect.unit (s := S1x144x3072) ![0, 0, 0] ![1, 144, 3072] inb2).withinL
          ((Rect.unit (s := S144x3072) o sz inb').toLoadRect.consLift ![1, 144, 3072] h0 hs) hu)) j
      = Z (ix3 (0 : Fin 1) ⟨o 0 + (j 0).val, Nat.lt_of_lt_of_le (Nat.add_lt_add_left (j 0).isLt _) (inb' 0)⟩
          ⟨o 1 + (j 1).val, Nat.lt_of_lt_of_le (Nat.add_lt_add_left (j 1).isLt _) (inb' 1)⟩) := by
  have e : v.readCov (⟨Rect.unit ![0, 0, 0] ![1, 144, 3072] inb, Z⟩ :: L)
        ((Rect.unit (s := S1x144x3072) ![0, 0, 0] ![1, 144, 3072] inb2).withinL
          ((Rect.unit (s := S144x3072) o sz inb').toLoadRect.consLift ![1, 144, 3072] h0 hs) hu) = fun x => Z (((Rect.unit (s := S1x144x3072) ![0, 0, 0] ![1, 144, 3072] inb2).withinL
          ((Rect.unit (s := S144x3072) o sz inb').toLoadRect.consLift ![1, 144, 3072] h0 hs) hu).idx x) := by
    rw [View.readCov_eq_canon']
    funext x
    exact congrFun (View.canon_cons_unit_lit (S := S1x144x3072) inb Z L (by decide)) _
  rw [e]
  have hx : Shape.reshapeEquiv hR j = Fin.cons ⟨0, Nat.one_pos⟩ j := Shape.reshapeEquiv_cons_one (d := sz) _ _
  show Z _ = Z _
  rw [hx]
  refine congrArg Z (funext fun a => Fin.ext ?_)
  rw [LoadRect.idx_apply]
  match a with
  | ⟨0, _⟩ => rfl
  | ⟨1, _⟩ => show 0 + o 0 + 1 * (j 0).val = o 0 + (j 0).val
              omega
  | ⟨2, _⟩ => show 0 + o 1 + 1 * (j 1).val = o 1 + (j 1).val
              omega

/-- One entry of one head's output: its sum over the keys divided by the sum of the weights, times the gated value. -/
def headOut (T : Vec Ideal S1x144x3072 .f32) (z : Vec Ideal S1024x128 .bf16) (h : Fin 3) (r : Fin 1024) (d : Fin 128) : EReal :=
  Ideal.div (T (ix3 (0 : Fin 1) ⟨d.val, by omega⟩ ⟨1024 * h.val + r.val, by omega⟩))
      (T (ix3 (0 : Fin 1) (128 : Fin 144) ⟨1024 * h.val + r.val, by omega⟩))
    * (z (ix2 r d) * FloatOps.logistic (F := Ideal) (φ := .f32) (z (ix2 r d)))

/-- The gate of one of the three heads. -/
def gateOf (z0 z1 z2 : Vec Ideal S1024x128 .bf16) (h : ℕ) : Vec Ideal S1024x128 .bf16 := if h = 0 then z0 else if h = 1 then z1 else z2

/-- A block of the result: three heads side by side. -/
def headsOut (T : Vec Ideal S1x144x3072 .f32) (z0 z1 z2 : Vec Ideal S1024x128 .bf16) : Vec Ideal S1024x384 .bf16 := fun x =>
  have h : (x 1 : Fin 384).val < 384 := (x 1 : Fin 384).isLt
  headOut T (gateOf z0 z1 z2 ((x 1 : Fin 384).val / 128)) ⟨(x 1 : Fin 384).val / 128, by omega⟩ (x 0) ⟨(x 1 : Fin 384).val % 128, by omega⟩

/-- The block of the result at an index of head `h`: that head's gated attention. -/
theorem headsOut_at (T : Vec Ideal S1x144x3072 .f32) (z0 z1 z2 : Vec Ideal S1024x128 .bf16) (x : S1024x384.Idx) (h : Fin 3) (y : S1024x128.Idx)
    (h0 : (x 0).val = (y 0).val) (h1 : (x 1).val = 128 * h.val + (y 1).val) :
    headsOut T z0 z1 z2 x = headOut T (gateOf z0 z1 z2 h.val) h (y 0) (y 1) := by
  have hy : (y 1).val < 128 := (y 1 : Fin 128).isLt
  have e1 : (x 1 : Fin 384).val / 128 = h.val := by omega
  have e2 : (x 1 : Fin 384).val % 128 = (y 1).val := by omega
  have e0 : (x 0 : Fin 1024) = (y 0 : Fin 1024) := Fin.ext h0
  unfold headsOut
  simp only [e1, e2]
  rw [e0]
  rfl

/-- An entry of the sums depends on the numbers of its row and its column alone. -/
theorem same_entry (T : Vec Ideal S1x144x3072 .f32) {a a' : Fin 144} {b b' : Fin 3072} (ha : a.val = a'.val) (hb : b.val = b'.val) :
    T (ix3 (0 : Fin 1) a b) = T (ix3 (0 : Fin 1) a' b') := by
  rw [Fin.ext ha, Fin.ext hb]

/-- What the first store writes is its head's gated attention. -/
theorem head_out_0 (T : Vec Ideal S1x144x3072 .f32) (z : Vec Ideal S1024x128 .bf16) (h : Fin 3) (o : ℕ) (ho : o = 1024 * h.val)
    (D : Vec Ideal S1x1024 .f32) (N : Vec Ideal S128x1024 .f32)
    (hD : ∀ x p q, D x = T (ix3 (0 : Fin 1) ⟨128 + (x 0).val, p⟩ ⟨o + (x 1).val, q⟩))
    (hN : ∀ x p q, N x = T (ix3 (0 : Fin 1) ⟨0 + (x 0).val, p⟩ ⟨o + (x 1).val, q⟩))
    (x : S1024x128.Idx) : k0_pay11 D N z x = headOut T z h (x 0) (x 1) := by
  subst ho
  idx_vars x
  unfold headOut
  pointwise [k0_pay11]
  rw [hN (ix2 x1 x0) (by show 0 + x1.val < 144; omega) (by show 1024 * h.val + x0.val < 3072; omega),
    hD (ix2 (0 : Fin 1) x0) (by show 128 + (0 : Fin 1).val < 144; decide) (by show 1024 * h.val + x0.val < 3072; omega)]
  exact congrArg (fun a => Ideal.div a _ * _) (same_entry T (Nat.zero_add _) rfl)

/-- What the second store writes is its head's gated attention. -/
theorem head_out_1 (T : Vec Ideal S1x144x3072 .f32) (z : Vec Ideal S1024x128 .bf16) (h : Fin 3) (o : ℕ) (ho : o = 1024 * h.val)
    (D : Vec Ideal S1x1024 .f32) (N : Vec Ideal S128x1024 .f32)
    (hD : ∀ x p q, D x = T (ix3 (0 : Fin 1) ⟨128 + (x 0).val, p⟩ ⟨o + (x 1).val, q⟩))
    (hN : ∀ x p q, N x = T (ix3 (0 : Fin 1) ⟨0 + (x 0).val, p⟩ ⟨o + (x 1).val, q⟩))
    (x : S1024x128.Idx) : k0_pay1 (k0_pay12 D N) z x = headOut T z h (x 0) (x 1) := by
  subst ho
  idx_vars x
  unfold headOut
  pointwise [k0_pay1, k0_pay12]
  rw [hN (ix2 x1 x0) (by show 0 + x1.val < 144; omega) (by show 1024 * h.val + x0.val < 3072; omega),
    hD (ix2 (0 : Fin 1) x0) (by show 128 + (0 : Fin 1).val < 144; decide) (by show 1024 * h.val + x0.val < 3072; omega)]
  exact congrArg (fun a => Ideal.div a _ * _) (same_entry T (Nat.zero_add _) rfl)

/-- What the third store writes is its head's gated attention. -/
theorem head_out_2 (T : Vec Ideal S1x144x3072 .f32) (z : Vec Ideal S1024x128 .bf16) (h : Fin 3) (o : ℕ) (ho : o = 1024 * h.val)
    (D : Vec Ideal S1x1024 .f32) (N : Vec Ideal S128x1024 .f32)
    (hD : ∀ x p q, D x = T (ix3 (0 : Fin 1) ⟨128 + (x 0).val, p⟩ ⟨o + (x 1).val, q⟩))
    (hN : ∀ x p q, N x = T (ix3 (0 : Fin 1) ⟨0 + (x 0).val, p⟩ ⟨o + (x 1).val, q⟩))
    (x : S1024x128.Idx) : k0_pay2 D N z x = headOut T z h (x 0) (x 1) := by
  subst ho
  idx_vars x
  unfold headOut
  pointwise [k0_pay2]
  rw [hN (ix2 x1 x0) (by show 0 + x1.val < 144; omega) (by show 1024 * h.val + x0.val < 3072; omega),
    hD (ix2 (0 : Fin 1) x0) (by show 128 + (0 : Fin 1).val < 144; decide) (by show 1024 * h.val + x0.val < 3072; omega)]
  exact congrArg (fun a => Ideal.div a _ * _) (same_entry T (Nat.zero_add _) rfl)

/-- What a grid point writes: the gated attention of its three heads. -/
theorem block_out (c : Dev nD) (t : Fin cfg0.N) :
    outsAt0 m c t = headsOut (total m c t) (iblk m c 3 t) (iblk m c 4 t) (iblk m c 5 t) := by
  have z : (View.whole cc0_scratch4).read (Elt Ideal) ((View.whole cc0_scratch4).writes (Elt Ideal) (View.whole cc0_scratch4).junk
      [⟨Rect.unit ![0, 0, 0] ![1, 144, 3072] inb_S1x144x3072_S1x144x3072_0_0_0, k0_pay9 (F := Ideal)⟩]) = (fun _ => 0 : Vec Ideal S1x144x3072 .f32) := by
    refine (View.read_writes_full (View.whole cc0_scratch4) _ _ _ _).trans ?_
    funext x
    idx_vars x
    pointwise [k0_pay9]
  have r : (View.whole cc0_scratch0).read (Elt Ideal) ((View.whole cc0_scratch0).writes (Elt Ideal) (View.whole cc0_scratch0).junk
      [⟨Rect.unit ![0, 0, 2048] ![1, 128, 1024] inb_S1x128x3072_S1x128x1024_0_0_2048,
          k0_pay8 (k0_pay7 (iblk m c 2 t)) (iblk m c 10 t) (iblk m c 8 t) (iblk m c 9 t)⟩,
        ⟨Rect.unit ![0, 0, 1024] ![1, 128, 1024] inb_S1x128x3072_S1x128x1024_0_0_1024,
          k0_pay6 (iblk m c 1 t) (iblk m c 10 t) (iblk m c 8 t) (iblk m c 9 t)⟩,
        ⟨Rect.unit ![0, 0, 0] ![1, 128, 1024] inb_S1x128x3072_S1x128x1024_0_0_0,
          k0_pay5 (iblk m c 0 t) (iblk m c 10 t) (iblk m c 8 t) (iblk m c 9 t)⟩]) = queries m c t := View.read_writes_junk_eq_canon _ _
  obtain ⟨L, e⟩ := loop_last m c t _ _ z
  unfold outsAt0
  frame_out
  rw [e, r]
  change View.canon _ = headsOut (sums (iblk m c 6 t) (iblk m c 7 t) (queries m c t) 4) _ _ _
  generalize sums (iblk m c 6 t) (iblk m c 7 t) (queries m c t) 4 = T
  simp only [List.cons_append]
  funext x
  canon_tiles x h
  all_goals clear z r e
  · rw [headsOut_at T _ _ _ _ 2 x h0 h1]
    exact head_out_2 T _ 2 2048 (by decide) _ _ (fun x _ _ => load_part _ T _ _ _ _ _ _ _ _ x) (fun x _ _ => load_part _ T _ _ _ _ _ _ _ _ x) x
  · rw [headsOut_at T _ _ _ _ 1 x h0 h1]
    exact head_out_1 T _ 1 1024 (by decide) _ _ (fun x _ _ => load_part _ T _ _ _ _ _ _ _ _ x) (fun x _ _ => load_part _ T _ _ _ _ _ _ _ _ x) x
  · rw [headsOut_at T _ _ _ _ 0 x h0 (h1.trans (Nat.zero_add _).symm)]
    exact head_out_0 T _ 0 0 (by decide) _ _ (fun x _ _ => load_part _ T _ _ _ _ _ _ _ _ x) (fun x _ _ => load_part _ T _ _ _ _ _ _ _ _ x) x

end Cert.Proof.Dense
end
-- ==== Proof.RealValues.lean ====
module

public import Idealize.ShloMosaic.Lib.Pipeline.ValueKit

/-! Extended reals that are real numbers, and the operations that keep them so. -/

@[expose] public section

noncomputable section

namespace Cert.Proof

open Idealize.ShloMosaic

/-- An extended real that is neither infinity. -/
def IsReal (x : EReal) : Prop := ∃ r : ℝ, x = r

/-- A real is real. -/
theorem IsReal.of (r : ℝ) : IsReal r := ⟨r, rfl⟩

/-- Sums of reals are real. -/
theorem IsReal.add {x y : EReal} : IsReal x → IsReal y → IsReal (x + y)
  | ⟨a, hx⟩, ⟨b, hy⟩ => ⟨a + b, by rw [hx, hy, EReal.coe_add]⟩

/-- Differences of reals are real. -/
theorem IsReal.sub {x y : EReal} : IsReal x → IsReal y → IsReal (x - y)
  | ⟨a, hx⟩, ⟨b, hy⟩ => ⟨a - b, by rw [hx, hy, EReal.coe_sub]⟩

/-- Products of reals are real. -/
theorem IsReal.mul {x y : EReal} : IsReal x → IsReal y → IsReal (x * y)
  | ⟨a, hx⟩, ⟨b, hy⟩ => ⟨a * b, by rw [hx, hy, EReal.coe_mul]⟩

/-- The negative of a real is real. -/
theorem IsReal.neg {x : EReal} : IsReal x → IsReal (-x)
  | ⟨a, hx⟩ => ⟨-a, by rw [hx, EReal.coe_neg]⟩

/-- The sum of real values is the sum of the reals they are. -/
theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A finite sum of reals is real. -/
theorem IsReal.sum {ι : Type*} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

/-- The cosine of a real is real. -/
theorem IsReal.cos {x : EReal} : IsReal x → IsReal (Ideal.cos x)
  | ⟨a, hx⟩ => ⟨Real.cos a, by rw [hx]; rfl⟩

/-- The sine of a real is real. -/
theorem IsReal.sin {x : EReal} : IsReal x → IsReal (Ideal.sin x)
  | ⟨a, hx⟩ => ⟨Real.sin a, by rw [hx]; rfl⟩

/-- A power of reals is real. -/
theorem IsReal.pow {x y : EReal} : IsReal x → IsReal y → IsReal (Ideal.pow x y)
  | ⟨a, hx⟩, ⟨b, hy⟩ => ⟨Real.rpow a b, by rw [hx, hy]; rfl⟩

/-- Dividing by a real other than zero multiplies by its inverse. -/
theorem div_real (x : EReal) {r : ℝ} (hr : r ≠ 0) : Ideal.div x r = x * ((r⁻¹ : ℝ) : EReal) := by
  unfold Ideal.div
  rw [if_neg (by simpa using hr), EReal.coe_inv]

/-- A real over a nonzero real is real. -/
theorem IsReal.div {x : EReal} (hx : IsReal x) {r : ℝ} (hr : r ≠ 0) : IsReal (Ideal.div x r) := by
  rw [div_real x hr]
  exact hx.mul (.of _)

/-- The inverse square root of a positive real is real. -/
theorem IsReal.rsqrt {r : ℝ} (hr : 0 < r) : IsReal (Ideal.rsqrt r) :=
  ⟨(Real.sqrt r)⁻¹, by rw [Ideal.rsqrt_coe]; simp [hr.ne', hr.le, hr, not_lt.2 hr.le]⟩

/-- The maximum of finitely many real values, at least one of them, is real. -/
theorem isReal_fold_max {ι : Type*} (s : Finset ι) (hs : s.Nonempty) (f : ι → EReal) (h : ∀ i, IsReal (f i)) :
    IsReal (s.fold max ⊥ f) := by
  classical
  induction hs using Finset.Nonempty.cons_induction with
  | singleton i => simpa using h i
  | cons i s hi hs ih =>
    rw [Finset.fold_cons]
    rcases max_choice (f i) (s.fold max ⊥ f) with e | e <;> rw [e]
    · exact h i
    · exact ih

/-- A maximum over one axis of an array of reals, started at minus infinity, is real. -/
theorem isReal_reduce_max {s t u : Shape} {a : Fin s.rank} (x : FVec Ideal s .f32) (init : FVec Ideal u .f32)
    (hinit : ∀ i, init i = (⊥ : EReal)) (h : s.ReducesTo [a] t) (h' : s.Reduces [a] t) (hu : 0 < u.numel)
    (hpos : 0 < s.size a) (hx : ∀ i, IsReal (x i)) (j : t.Idx) :
    IsReal (Host.reduce (FloatOps.maximumf (F := Ideal) (φ := .f32)) x init h hu j) := by
  haveI : Nonempty (Fin (s.size a)) := ⟨⟨0, hpos⟩⟩
  rw [Ideal.maximumf_eq_max, Host.reduce_eq_fold_single max x init h h' hu j, hinit]
  exact isReal_fold_max _ Finset.univ_nonempty _ fun k => hx _

/-- A nonnegative real factor distributes over a finite sum of extended reals. -/
theorem sum_mul_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih,
      EReal.right_distrib_of_nonneg_of_ne_top (by exact_mod_cast hr) (EReal.coe_ne_top r)]

/-- Softmax by its two spellings. The weighted sum of `v` with weights `exp (s i)`, divided once by the sum of the
    weights, is the sum of `v` with the weights already divided, whatever real number `M` is taken off the scores. -/
theorem softmax_mix {ι : Type*} [Fintype ι] [Nonempty ι] (v : ι → EReal) (s : ι → ℝ) (M : ℝ) :
    Ideal.div (∑ i, v i * ((Real.exp (s i) : ℝ) : EReal)) (∑ i, ((Real.exp (s i) : ℝ) : EReal))
      = ∑ i, v i * Ideal.div (Ideal.exp ((s i : EReal) - (M : EReal))) (∑ k, Ideal.exp ((s k : EReal) - (M : EReal))) := by
  have hD : 0 < ∑ i, Real.exp (s i) := Finset.sum_pos (fun i _ => Real.exp_pos _) Finset.univ_nonempty
  have hE : 0 < ∑ i, Real.exp (s i - M) := Finset.sum_pos (fun i _ => Real.exp_pos _) Finset.univ_nonempty
  have hsum : ∑ i, Real.exp (s i - M) = (∑ i, Real.exp (s i)) * (Real.exp M)⁻¹ := by
    rw [Finset.sum_mul]
    exact Finset.sum_congr rfl fun i _ => by rw [Real.exp_sub, div_eq_mul_inv]
  have hexp : ∀ i, Ideal.exp ((s i : EReal) - (M : EReal)) = ((Real.exp (s i - M) : ℝ) : EReal) := fun i => by
    rw [← EReal.coe_sub, Ideal.exp_coe]
  simp only [hexp]
  rw [sum_coe, sum_coe, div_real _ hD.ne', sum_mul_nonneg _ _ (inv_nonneg.2 hD.le)]
  refine Finset.sum_congr rfl fun i _ => ?_
  rw [div_real _ hE.ne', mul_assoc, ← EReal.coe_mul, ← EReal.coe_mul, hsum, Real.exp_sub]
  congr 2
  have := (Real.exp_pos M).ne'
  field_simp

end Cert.Proof
end
-- ==== Proof.DenseTables.lean ====
module

public import proofs.«01_k».proof.Proof.DenseLoop
public import proofs.«01_k».proof.Proof.RealValues
public import Idealize.ShloMosaic.Lib.StableHlo.RunRead

/-! The rotary tables. A token's row and column on the 64-wide grid, times 32 frequencies, are the angles; the
    kernel's two tables hold their cosines and signed sines, one column per token. -/

@[expose] public section

set_option maxRecDepth 16384

noncomputable section

namespace Cert.Proof.Dense

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The 32 frequencies `10000 ^ (- 2 i / 64)`. -/
abbrev frequencies : FVec Ideal S32 .f32 :=
  Host.powf (broadcastInDim S32 ![] bcast_S_S32 (constant (F := Ideal) S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- Positions times frequencies. -/
abbrev anglesOf (pos : IVec S16384 32) : FVec Ideal S16384x32 .f32 :=
  mulf (broadcastInDim S16384x32 ![0, 1] bcast_S16384x1_S16384x32_0_1
      (broadcastInDim S16384x1 ![0] bcast_S16384_S16384x1_0 (sitofp (F := Ideal) .f32 pos)))
    (broadcastInDim S16384x32 ![0, 1] bcast_S1x32_S16384x32_0_1
      (broadcastInDim S1x32 ![1] bcast_S32_S1x32_1 frequencies))

/-- The angles of the tokens' rows. -/
abbrev rowAngles : FVec Ideal S16384x32 .f32 := anglesOf (shapeCast S16384
    (broadcastInDim S256x64 ![0] bcast_S256_S256x64_0 (iotaInDim S256 32 0)) shapeCasts_S256x64_S16384)

/-- The angles of the tokens' columns. -/
abbrev colAngles : FVec Ideal S16384x32 .f32 := anglesOf (shapeCast S16384
    (broadcastInDim S256x64 ![0, 1] bcast_S1x64_S256x64_0_1
      (shapeCast S1x64 (iotaInDim S64 32 0) shapeCasts_S64_S1x64)) shapeCasts_S256x64_S16384)

/-- The kernel's table of cosines. -/
abbrev cosTable : FVec Ideal S128x16384 .f32 := transpose S128x16384 [1, 0]
    (concatenate S16384x128 1 [⟨S16384x32, Host.cos rowAngles⟩, ⟨S16384x32, Host.cos rowAngles⟩,
      ⟨S16384x32, Host.cos colAngles⟩, ⟨S16384x32, Host.cos colAngles⟩]
      concatenates_S16384x32_S16384x32_S16384x32_S16384x32_S16384x128_d1)
    transposes_S16384x128_S128x16384_1_0

/-- The kernel's table of signed sines. -/
abbrev sinTable : FVec Ideal S128x16384 .f32 := transpose S128x16384 [1, 0]
    (concatenate S16384x128 1 [⟨S16384x32, Host.negf (Host.sin rowAngles)⟩, ⟨S16384x32, Host.sin rowAngles⟩,
      ⟨S16384x32, Host.negf (Host.sin colAngles)⟩, ⟨S16384x32, Host.sin colAngles⟩]
      concatenates_S16384x32_S16384x32_S16384x32_S16384x32_S16384x128_d1)
    transposes_S16384x128_S128x16384_1_0

set_option maxHeartbeats 4000000 in
/-- The kernel is handed the table of cosines. -/
theorem cos_table : V m c main_v37 = cosTable := by
  unfold_abbrev_sides
  after_reads_simp
  rfl

set_option maxHeartbeats 4000000 in
/-- The kernel is handed the table of signed sines. -/
theorem sin_table : V m c main_v38 = sinTable := by
  unfold_abbrev_sides
  after_reads_simp
  rfl

set_option maxHeartbeats 4000000 in
/-- The kernel is handed the gain as a column. -/
theorem gain_column (d : Fin 128) : V m c main_v39 (ix2 d 0) = m ((c.tc : Thread nD τ).loc main_arg3) (ix1 d) := by
  unfold_abbrev_sides
  after_reads_simp
  pointwise []

/-- The angle of grid coordinate `n` at frequency `i`. -/
def turnAngle (n i : ℕ) : EReal :=
  FloatOps.sitofp (F := Ideal) FTy.f32 (BitVec.ofNat 32 n)
    * Ideal.pow (Ideal.ofBits FTy.f32 1176256512#32)
        (Ideal.div (-(Ideal.ofBits FTy.f32 1073741824#32 * FloatOps.sitofp (F := Ideal) FTy.f32 (BitVec.ofNat 32 i)))
          (Ideal.ofBits FTy.f32 1115684864#32))

/-- A position times a frequency is the angle. -/
theorem turnAngle_eq (n i : ℕ) : FloatOps.sitofp (F := Ideal) FTy.f32 (BitVec.ofNat 32 n)
    * Ideal.pow (Ideal.ofBits FTy.f32 1176256512#32)
        (Ideal.div (-(Ideal.ofBits FTy.f32 1073741824#32 * FloatOps.sitofp (F := Ideal) FTy.f32 (BitVec.ofNat 32 i)))
          (Ideal.ofBits FTy.f32 1115684864#32)) = turnAngle n i := rfl

/-- Every angle is a real number. -/
theorem isReal_turnAngle (n i : ℕ) : IsReal (turnAngle n i) := by
  have e : Ideal.ofBits FTy.f32 1115684864#32 = ((64 : ℝ) : EReal) := by
    simp [Ideal.ofBits, Ideal.ieee, -EReal.coe_mul]; norm_num
  have e2 : Ideal.ofBits FTy.f32 1073741824#32 = ((2 : ℝ) : EReal) := by
    simp [Ideal.ofBits, Ideal.ieee, -EReal.coe_mul]; norm_num
  have e3 : Ideal.ofBits FTy.f32 1176256512#32 = ((10000 : ℝ) : EReal) := by
    simp [Ideal.ofBits, Ideal.ieee, -EReal.coe_mul]; norm_num
  have h : ∀ k : ℕ, IsReal (FloatOps.sitofp (F := Ideal) FTy.f32 (BitVec.ofNat 32 k)) := fun k => ⟨_, rfl⟩
  unfold turnAngle
  rw [e, e2, e3]
  exact (h n).mul ((IsReal.of _).pow (((IsReal.of _).mul (h i)).neg.div (by norm_num)))

/-- A vector of 128 entries turned by token `x`'s angles, as the reference turns it: the first half by its row's angles,
    the second half by its column's, each half pairing entry `i` with entry `i + 32`. -/
def turned (y : Fin 128 → EReal) (x : ℕ) (d : Fin 128) : EReal :=
  if h : d.val < 32 then
    y d * Ideal.cos (turnAngle (x / 64) d.val) - y ⟨32 + d.val, by omega⟩ * Ideal.sin (turnAngle (x / 64) d.val)
  else if h : d.val < 64 then
    y d * Ideal.cos (turnAngle (x / 64) (d.val - 32)) + y ⟨d.val - 32, by omega⟩ * Ideal.sin (turnAngle (x / 64) (d.val - 32))
  else if h : d.val < 96 then
    y d * Ideal.cos (turnAngle (x % 64) (d.val - 64)) - y ⟨32 + d.val, by omega⟩ * Ideal.sin (turnAngle (x % 64) (d.val - 64))
  else
    y d * Ideal.cos (turnAngle (x % 64) (d.val - 96)) + y ⟨d.val - 32, by omega⟩ * Ideal.sin (turnAngle (x % 64) (d.val - 96))

/-- Turning real entries gives real entries. -/
theorem isReal_turned (y : Fin 128 → EReal) (hy : ∀ d, IsReal (y d)) (x : ℕ) (d : Fin 128) : IsReal (turned y x d) := by
  have hc : ∀ n i, IsReal (Ideal.cos (turnAngle n i)) := fun n i => (isReal_turnAngle n i).cos
  have hs : ∀ n i, IsReal (Ideal.sin (turnAngle n i)) := fun n i => (isReal_turnAngle n i).sin
  unfold turned
  split
  · exact ((hy _).mul (hc _ _)).sub ((hy _).mul (hs _ _))
  split
  · exact ((hy _).mul (hc _ _)).add ((hy _).mul (hs _ _))
  split
  · exact ((hy _).mul (hc _ _)).sub ((hy _).mul (hs _ _))
  · exact ((hy _).mul (hc _ _)).add ((hy _).mul (hs _ _))

/-- The entry the kernel pairs with entry `d`. -/
def partner (d : Fin 128) : Fin 128 :=
  if h : d.val < 32 then ⟨32 + d.val, by omega⟩
  else if h : d.val < 64 then ⟨d.val - 32, by omega⟩
  else if h : d.val < 96 then ⟨32 + d.val, by omega⟩
  else ⟨d.val - 32, by omega⟩

/-- The kernel's turn, by the two tables and the paired entry, is the reference's. -/
theorem table_turn (y : Fin 128 → EReal) (x : Fin 16384) (d : Fin 128) :
    y d * cosTable (ix2 d x) + y (partner d) * sinTable (ix2 d x) = turned y x.val d := by
  pointwise [cosTable, sinTable]
  simp only [turnAngle_eq]
  unfold turned partner
  by_cases h1 : d.val < 32
  · simp only [h1, dif_pos, mul_neg, sub_eq_add_neg]
  by_cases h2 : d.val < 64
  · have h2' : d.val - 32 < 32 := by omega
    simp only [h1, h2, h2', dif_pos, dif_neg, not_false_eq_true]
  have h2' : ¬ d.val - 32 < 32 := by omega
  by_cases h3 : d.val < 96
  · have h3' : d.val - 32 - 32 < 32 := by omega
    have e : d.val - 32 - 32 = d.val - 64 := by omega
    rw [e] at h3'
    simp only [h1, h2, h2', h3, h3', dif_pos, dif_neg, not_false_eq_true, mul_neg, sub_eq_add_neg, e]
  · have h3' : ¬ d.val - 32 - 32 < 32 := by omega
    have e : d.val - 32 - 32 - 32 = d.val - 96 := by omega
    simp only [h1, h2, h2', h3, h3', dif_neg, not_false_eq_true, e]

end Cert.Proof.Dense
end
-- ==== Proof.DenseQueries.lean ====
module

public import proofs.«01_k».proof.Proof.DenseTables

/-! What the kernel's blocks and its prepared queries hold, in terms of the argument arrays. -/

@[expose] public section

set_option maxRecDepth 16384

noncomputable section

namespace Cert.Proof.Dense

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- A row of 128 entries divided by the root of its mean square, times a gain. -/
def normalized (y g : Fin 128 → EReal) (d : Fin 128) : EReal :=
  y d * Ideal.rsqrt (Ideal.div (∑ k, y k * y k) (Ideal.ofBits FTy.f32 1124073472#32) + Ideal.ofBits FTy.f32 897988541#32) * g d

/-- Normalizing real entries by a real gain gives real entries. -/
theorem isReal_normalized (y g : Fin 128 → EReal) (hy : ∀ d, IsReal (y d)) (hg : ∀ d, IsReal (g d)) (d : Fin 128) :
    IsReal (normalized y g d) := by
  have e : Ideal.ofBits FTy.f32 1124073472#32 = ((128 : ℝ) : EReal) := by
    simp [Ideal.ofBits, Ideal.ieee, -EReal.coe_mul]; norm_num
  have e2 : ∃ r : ℝ, 0 < r ∧ Ideal.ofBits FTy.f32 897988541#32 = (r : EReal) := by
    refine ⟨_, ?_, by simp only [Ideal.ofBits, Ideal.ieee]; simp [-EReal.coe_mul]; rfl⟩
    norm_num
  obtain ⟨r, hr, e2⟩ := e2
  choose z hz using hy
  unfold normalized
  have hs : ∑ k, y k * y k = ((∑ k, z k * z k : ℝ) : EReal) := by
    rw [← sum_coe]
    exact Finset.sum_congr rfl fun k _ => by rw [hz, EReal.coe_mul]
  have h0 : (0 : ℝ) ≤ ∑ k, z k * z k := Finset.sum_nonneg fun k _ => mul_self_nonneg _
  rw [hs, e, e2, div_real _ (by norm_num), ← EReal.coe_mul, ← EReal.coe_add]
  have hd : IsReal (y d) := ⟨z d, hz d⟩
  exact (hd.mul (.rsqrt (by positivity))).mul (hg d)

/-- The constant the prepared queries are multiplied by. -/
abbrev queryScale : EReal := Named.named (F := Ideal) (φ := .f32) κ "scale2" 1040356334#32

section
variable (X : Vec Ideal S1024x128 .bf16) (G : Vec Ideal S128x1 .f32) (C S : Vec Ideal S128x1024 .f32) (d : Fin 128) (r : Fin 1024)

/-- One prepared query entry, from a block of raw queries and the blocks of the two tables. -/
def prepared : EReal :=
  (normalized (fun k => X (ix2 r k)) (fun k => G (ix2 k 0)) d * C (ix2 d r)
    + normalized (fun k => X (ix2 r k)) (fun k => G (ix2 k 0)) (partner d) * S (ix2 d r)) * queryScale

/-- The choice of partner row, read through a function of the row. -/
theorem partner_read (f : Fin 128 → EReal) :
    (if h : d.val < 32 then f ⟨32 + d.val, by omega⟩
      else if h : d.val - 32 < 32 then f ⟨d.val - 32, by omega⟩
      else if h : d.val - 32 - 32 < 32 then f ⟨96 + (d.val - 32 - 32), by omega⟩
      else f ⟨64 + (d.val - 32 - 32 - 32), by omega⟩) = f (partner d) := by
  unfold partner
  split_ifs <;> first | rfl | (exfalso; omega) | (congr 2; omega)

set_option maxHeartbeats 4000000 in
theorem prepared_0 : k0_pay5 X G C S (ix3 0 d r) = prepared X G C S d r := by
  pointwise [k0_pay5]
  unfold prepared
  rw [← partner_read d (normalized (fun k => X (ix2 r k)) (fun k => G (ix2 k 0)))]
  simp only [normalized]

set_option maxHeartbeats 4000000 in
theorem prepared_1 : k0_pay6 X G C S (ix3 0 d r) = prepared X G C S d r := by
  pointwise [k0_pay6]
  unfold prepared
  rw [← partner_read d (normalized (fun k => X (ix2 r k)) (fun k => G (ix2 k 0)))]
  simp only [normalized]

set_option maxHeartbeats 4000000 in
theorem prepared_2 : k0_pay8 (k0_pay7 X) G C S (ix3 0 d r) = prepared X G C S d r := by
  pointwise [k0_pay8, k0_pay7]
  unfold prepared
  rw [← partner_read d (normalized (fun k => X (ix2 r k)) (fun k => G (ix2 k 0)))]
  simp only [normalized]

end

/-- Which block of its array each operand stages at a grid point. -/
theorem block_index : ∀ t : Fin cfg0.N, win0_0.index t = ![(grid0.coords t 1).val, 68 + 3 * (grid0.coords t 0).val]
    ∧ win0_1.index t = ![(grid0.coords t 1).val, 69 + 3 * (grid0.coords t 0).val]
    ∧ win0_2.index t = ![(grid0.coords t 1).val, 70 + 3 * (grid0.coords t 0).val]
    ∧ win0_3.index t = ![(grid0.coords t 1).val, 88 + 3 * (grid0.coords t 0).val]
    ∧ win0_4.index t = ![(grid0.coords t 1).val, 89 + 3 * (grid0.coords t 0).val]
    ∧ win0_5.index t = ![(grid0.coords t 1).val, 90 + 3 * (grid0.coords t 0).val]
    ∧ win0_6.index t = ![0, (grid0.coords t 0).val]
    ∧ win0_7.index t = ![(grid0.coords t 0).val, 0, 0, 0]
    ∧ win0_8.index t = ![0, (grid0.coords t 1).val]
    ∧ win0_9.index t = ![0, (grid0.coords t 1).val]
    ∧ win0_10.index t = ![0, 0]
    ∧ win0_11.index t = ![(grid0.coords t 1).val, (grid0.coords t 0).val] :=
  (by decide +kernel : ∀ t : Fin grid0.N, _)

variable (t : Fin cfg0.N)

/-- The key/value head of a grid point. -/
def kvHead : Fin 4 := grid0.coords t 0

/-- The token of row `r` of a grid point's block. -/
def token (r : Fin 1024) : Fin 16384 := ⟨1024 * (grid0.coords t 1).val + r.val, by
  have : (grid0.coords t 1).val < 16 := (grid0.coords t 1).isLt
  omega⟩

/-- The column of the projections at which entry `d` of query head `j` stands, heads counted from column 0. -/
def headColumn (j : ℕ) (hj : j < 100) (d : Fin 128) : Fin 12800 := ⟨128 * j + d.val, by omega⟩

/-- A row of the block of query head 0 of the group is the projections' row of its token. -/
theorem read_query_0 (r : Fin 1024) (d : Fin 128) : iblk m c 0 t (ix2 r d)
    = m ((c.tc : Thread nD τ).loc main_arg0) (ix2 (token t r) (headColumn (68 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- A row of the block of query head 1 of the group is the projections' row of its token. -/
theorem read_query_1 (r : Fin 1024) (d : Fin 128) : iblk m c 1 t (ix2 r d)
    = m ((c.tc : Thread nD τ).loc main_arg0) (ix2 (token t r) (headColumn (69 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- A row of the block of query head 2 of the group is the projections' row of its token. -/
theorem read_query_2 (r : Fin 1024) (d : Fin 128) : iblk m c 2 t (ix2 r d)
    = m ((c.tc : Thread nD τ).loc main_arg0) (ix2 (token t r) (headColumn (70 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- A row of the block of gate 0 of the group is the projections' row of its token. -/
theorem read_gate_0 (r : Fin 1024) (d : Fin 128) : iblk m c 3 t (ix2 r d)
    = m ((c.tc : Thread nD τ).loc main_arg0) (ix2 (token t r) (headColumn (88 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- A row of the block of gate 1 of the group is the projections' row of its token. -/
theorem read_gate_1 (r : Fin 1024) (d : Fin 128) : iblk m c 4 t (ix2 r d)
    = m ((c.tc : Thread nD τ).loc main_arg0) (ix2 (token t r) (headColumn (89 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- A row of the block of gate 2 of the group is the projections' row of its token. -/
theorem read_gate_2 (r : Fin 1024) (d : Fin 128) : iblk m c 5 t (ix2 r d)
    = m ((c.tc : Thread nD τ).loc main_arg0) (ix2 (token t r) (headColumn (90 + 3 * (kvHead t).val) (by omega) d)) := by
  have h0 : (grid0.coords t 0).val < 4 := (grid0.coords t 0).isLt
  have h1 : (grid0.coords t 1).val < 16 := (grid0.coords t 1).isLt
  unfold token headColumn kvHead
  blk_point [iblk, V, block_index t]

/-- The block of keys is the key head's columns. -/
theorem read_key (s : Fin 16384) (d : Fin 128) : iblk m c 6 t (ix2 s d)
    = m ((c.tc : Thread nD τ).loc main_arg1) (ix2 s ⟨128 * (kvHead t).val + d.val, by omega⟩) := by
  have h0 : (grid0.coords t 0).val < 4 := (grid0.coords t 0).isLt
  unfold kvHead
  blk_point [iblk, V, block_index t]

/-- The block of values is the key head's values. -/
theorem read_value (b : Fin 16) (e : Fin 144) (s : Fin 1024) : iblk m c 7 t (ix4 0 b e s)
    = m ((c.tc : Thread nD τ).loc main_arg2) (ix4 (kvHead t) b e s) := by
  have h0 : (grid0.coords t 0).val < 4 := (grid0.coords t 0).isLt
  unfold kvHead
  blk_point [iblk, V, block_index t]

/-- A block of a table holds the columns of its tokens. -/
theorem read_table (T : Vec Ideal S128x16384 .f32) (d : Fin 128) (r : Fin 1024) :
    T ((win0_8.blk t).view.emb (ix2 d r)) = T (ix2 d (token t r)) ∧ T ((win0_9.blk t).view.emb (ix2 d r)) = T (ix2 d (token t r)) := by
  have h1 : (grid0.coords t 1).val < 16 := (grid0.coords t 1).isLt
  unfold token
  constructor
  · blk_point [block_index t]
  · blk_point [block_index t]

/-- The block of cosines holds the cosines of its tokens' angles. -/
theorem read_cos (d : Fin 128) (r : Fin 1024) : iblk m c 8 t (ix2 d r) = cosTable (ix2 d (token t r)) :=
  (congrFun (cos_table m c) _).trans (read_table t cosTable d r).1

/-- The block of sines holds the sines of its tokens' angles. -/
theorem read_sin (d : Fin 128) (r : Fin 1024) : iblk m c 9 t (ix2 d r) = sinTable (ix2 d (token t r)) :=
  (congrFun (sin_table m c) _).trans (read_table t sinTable d r).2

/-- The block of the gain is the gain. -/
theorem read_gain (d : Fin 128) : iblk m c 10 t (ix2 d 0) = m ((c.tc : Thread nD τ).loc main_arg3) (ix1 d) := by
  have e : ∀ T : Vec Ideal S128x1 .f32, T ((win0_10.blk t).view.emb (ix2 d 0)) = T (ix2 d 0) := fun T => by
    blk_point [block_index t]
  exact (e (V m c main_v39)).trans (gain_column m c d)

end Cert.Proof.Dense
end
-- ==== Proof.DenseReference.lean ====
module

public import proofs.«01_k».proof.Proof.DenseQueries
public import proofs.«01_k».proof.Proof.Gen.ReferenceIdeal.Run

/-! The reference for the attention over all keys: its stages, and what each of them holds at an index. -/

@[expose] public section

set_option maxRecDepth 16384

noncomputable section

namespace Cert.Proof.DenseRef

open Cert.Proof.Dense (rowAngles colAngles turned normalized turnAngle turnAngle_eq)
open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- The twelve raw query heads. -/
abbrev refHeads (P : FVec Ideal S16384x12800 .bf16) : FVec Ideal S16384x12x128 .f32 :=
  shapeCast S16384x12x128 (extf .f32 (extractStridedSlice S16384x1536 ![0, 8704] P slices_S16384x12800_S16384x1536_0_8704)
    bitsLt_bf16_f32) shapeCasts_S16384x1536_S16384x12x128

/-- The query heads divided by the root of their mean square, times the gain. -/
abbrev refNormed (x : FVec Ideal S16384x12x128 .f32) (g : FVec Ideal S128 .f32) : FVec Ideal S16384x12x128 .f32 :=
  mulf (mulf x (broadcastInDim S16384x12x128 ![0, 1, 2] bcast_S16384x12x1_S16384x12x128_0_1_2
      (Host.rsqrt (addf (Host.divf
        (broadcastInDim S16384x12x1 ![0, 1] bcast_S16384x12_S16384x12x1_0_1
          (Host.reduceAdd (mulf x x) (constant S_ .f32 0x00000000#32) reducesTo_S16384x12x128_S16384x12_d2 h_S_))
        (broadcastInDim S16384x12x1 ![] bcast_S_S16384x12x1 (constant S_ .f32 0x43000000#32)))
        (broadcastInDim S16384x12x1 ![] bcast_S_S16384x12x1 (constant S_ .f32 0x358637BD#32))))))
    (broadcastInDim S16384x12x128 ![0, 1, 2] bcast_S1x1x128_S16384x12x128_0_1_2
      (broadcastInDim S1x1x128 ![2] bcast_S128_S1x1x128_2 g))

/-- Half of a head turned by one set of angles. -/
abbrev refTurn (x : FVec Ideal S16384x12x64 .f32) (a : FVec Ideal S16384x32 .f32) : FVec Ideal S16384x12x64 .f32 :=
  fn_main_v76 (F := Ideal)
    (subf
      (mulf (extractStridedSlice S16384x12x32 ![0, 0, 0] x slices_S16384x12x64_S16384x12x32_0_0_0)
        (broadcastInDim S16384x12x32 ![0, 1, 2] bcast_S16384x1x32_S16384x12x32_0_1_2
          (broadcastInDim S16384x1x32 ![0, 2] bcast_S16384x32_S16384x1x32_0_2 (Host.cos a))))
      (mulf (extractStridedSlice S16384x12x32 ![0, 0, 32] x slices_S16384x12x64_S16384x12x32_0_0_32)
        (broadcastInDim S16384x12x32 ![0, 1, 2] bcast_S16384x1x32_S16384x12x32_0_1_2
          (broadcastInDim S16384x1x32 ![0, 2] bcast_S16384x32_S16384x1x32_0_2 (Host.sin a)))))
    (addf
      (mulf (extractStridedSlice S16384x12x32 ![0, 0, 32] x slices_S16384x12x64_S16384x12x32_0_0_32)
        (broadcastInDim S16384x12x32 ![0, 1, 2] bcast_S16384x1x32_S16384x12x32_0_1_2
          (broadcastInDim S16384x1x32 ![0, 2] bcast_S16384x32_S16384x1x32_0_2 (Host.cos a))))
      (mulf (extractStridedSlice S16384x12x32 ![0, 0, 0] x slices_S16384x12x64_S16384x12x32_0_0_0)
        (broadcastInDim S16384x12x32 ![0, 1, 2] bcast_S16384x1x32_S16384x12x32_0_1_2
          (broadcastInDim S16384x1x32 ![0, 2] bcast_S16384x32_S16384x1x32_0_2 (Host.sin a)))))

/-- The query heads turned, the first half by the rows and the second by the columns. -/
abbrev refTurned (x : FVec Ideal S16384x12x128 .f32) : FVec Ideal S16384x12x128 .f32 :=
  fn_main_v93 (F := Ideal)
    (refTurn (extractStridedSlice S16384x12x64 ![0, 0, 0] x slices_S16384x12x128_S16384x12x64_0_0_0) rowAngles)
    (refTurn (extractStridedSlice S16384x12x64 ![0, 0, 64] x slices_S16384x12x128_S16384x12x64_0_0_64) colAngles)

/-- Every query against every key, over the root of 128. -/
abbrev refScores (q : FVec Ideal S16384x12x128 .f32) (K : FVec Ideal S16384x512 .bf16) : FVec Ideal S4x3x16384x16384 .f32 :=
  Host.divf
    (transpose S4x3x16384x16384 [0, 3, 2, 1]
      (Host.dotGeneral dot_S16384x4x128_S16384x4x3x128_S4x16384x16384x3_2_3_0_02_1_1 none
        (shapeCast S16384x4x128 (extf .f32 K bitsLt_bf16_f32) shapeCasts_S16384x512_S16384x4x128)
        (shapeCast S16384x4x3x128 q shapeCasts_S16384x12x128_S16384x4x3x128))
      transposes_S4x16384x16384x3_S4x3x16384x16384_0_3_2_1)
    (broadcastInDim S4x3x16384x16384 ![] bcast_S_S4x3x16384x16384 (Host.sqrt (constant S_ .f32 0x43000000#32)))

/-- The greatest score of each query. -/
abbrev refTop (s : FVec Ideal S4x3x16384x16384 .f32) : FVec Ideal S4x3x16384 .f32 :=
  maximumf (broadcastInDim S4x3x16384 ![] bcast_S_S4x3x16384 (constant S_ .f32 0xFF800000#32))
    (Host.reduce FloatOps.maximumf s (constant S_ .f32 0xFF800000#32) reducesTo_S4x3x16384x16384_S4x3x16384_d3 h_S_)

/-- The exponentials of the scores less the greatest. -/
abbrev refRaised (s : FVec Ideal S4x3x16384x16384 .f32) (M : FVec Ideal S4x3x16384 .f32) : FVec Ideal S4x3x16384x16384 .f32 :=
  Host.exp (subf s (broadcastInDim S4x3x16384x16384 ![0, 1, 2, 3] bcast_S4x3x16384x1_S4x3x16384x16384_0_1_2_3
    (broadcastInDim S4x3x16384x1 ![0, 1, 2] bcast_S4x3x16384_S4x3x16384x1_0_1_2 M)))

/-- Each query's exponentials divided by their sum. -/
abbrev refWeights (e : FVec Ideal S4x3x16384x16384 .f32) : FVec Ideal S4x3x16384x16384 .f32 :=
  Host.divf e (broadcastInDim S4x3x16384x16384 ![0, 1, 2, 3] bcast_S4x3x16384x1_S4x3x16384x16384_0_1_2_3
    (broadcastInDim S4x3x16384x1 ![0, 1, 2] bcast_S4x3x16384_S4x3x16384x1_0_1_2
      (Host.reduceAdd e (constant S_ .f32 0x00000000#32) reducesTo_S4x3x16384x16384_S4x3x16384_d3 h_S_)))

/-- The values mixed by the weights. -/
abbrev refMixed (p : FVec Ideal S4x3x16384x16384 .f32) (V : FVec Ideal S4x16x144x1024 .bf16) : FVec Ideal S16384x1536 .f32 :=
  shapeCast S16384x1536 (transpose S16384x4x3x128 [3, 0, 2, 1]
    (Host.dotGeneral dot_S16384x4x128_S4x3x16384x16384_S4x128x3x16384_0_3_2_12_1_0 none
      (shapeCast S16384x4x128 (transpose S16x1024x4x128 [1, 3, 0, 2]
          (extf .f32 (extractStridedSlice S4x16x128x1024 ![0, 0, 0, 0] V slices_S4x16x144x1024_S4x16x128x1024_0_0_0_0)
            bitsLt_bf16_f32) transposes_S4x16x128x1024_S16x1024x4x128_1_3_0_2) shapeCasts_S16x1024x4x128_S16384x4x128)
      p) transposes_S4x128x3x16384_S16384x4x3x128_3_0_2_1) shapeCasts_S16384x4x3x128_S16384x1536

/-- The gates. -/
abbrev refGates (P : FVec Ideal S16384x12800 .bf16) : FVec Ideal S16384x1536 .f32 :=
  extf .f32 (extractStridedSlice S16384x1536 ![0, 11264] P slices_S16384x12800_S16384x1536_0_11264) bitsLt_bf16_f32

/-- The mixed values times the gates' silu. -/
abbrev refGated (o z : FVec Ideal S16384x1536 .f32) : FVec Ideal S16384x1536 .bf16 :=
  truncf .bf16 (mulf o (mulf z (Host.divf (broadcastInDim S16384x1536 ![] bcast_S_S16384x1536 (constant S_ .f32 0x3F800000#32))
    (addf (broadcastInDim S16384x1536 ![] bcast_S_S16384x1536 (constant S_ .f32 0x3F800000#32)) (Host.exp (Host.negf z))))))
    bitsLt_bf16_f32

variable (P : FVec Ideal S16384x12800 .bf16) (g : FVec Ideal S128 .f32) (K : FVec Ideal S16384x512 .bf16)
  (V : FVec Ideal S4x16x144x1024 .bf16)

/-- The turned query heads of the arguments. -/
abbrev refQueries : FVec Ideal S16384x12x128 .f32 := refTurned (refNormed (refHeads P) g)

/-- The whole reference, by its stages. -/
abbrev refResult : FVec Ideal S16384x1536 .bf16 :=
  refGated (refMixed (refWeights (refRaised (refScores (refQueries P g) K) (refTop (refScores (refQueries P g) K)))) V) (refGates P)

set_option maxHeartbeats 4000000 in
set_option maxRecDepth 65536 in
/-- The reference's result is its stages' composition. -/
theorem result_staged : res_main_v122 m c
    = refResult (m ((c.tc : Thread nD τ).loc main_arg0)) (m ((c.tc : Thread nD τ).loc main_arg3))
      (m ((c.tc : Thread nD τ).loc main_arg1)) (m ((c.tc : Thread nD τ).loc main_arg2)) := by
  unfold res_main_v122
  rfl

/-- The normalized query at an entry. -/
theorem normed_at (x : Fin 16384) (h : Fin 12) (d : Fin 128) : refNormed (refHeads P) g (ix3 x h d)
    = normalized (fun k => P (ix2 x ⟨8704 + (h.val * 128 + k.val), by omega⟩)) (fun k => g (ix1 k)) d := by
  pointwise [refNormed]
  rfl

set_option maxHeartbeats 4000000 in
theorem turned_at (y : FVec Ideal S16384x12x128 .f32) (x : Fin 16384) (h : Fin 12) (d : Fin 128) :
    refTurned y (ix3 x h d) = turned (fun k => y (ix3 x h k)) x.val d := by
  unfold refTurned refTurn fn_main_v93 fn_main_v76
  pointwise []
  simp only [turnAngle_eq]
  unfold turned
  by_cases h1 : d.val < 32
  · have h2 : d.val < 64 := by omega
    simp only [h1, h2, dif_pos]
  by_cases h2 : d.val < 64
  · have e : (⟨32 + (d.val - 32), by omega⟩ : Fin 128) = d := Fin.ext (by show 32 + (d.val - 32) = d.val; omega)
    simp only [h1, h2, dif_pos, dif_neg, not_false_eq_true, e]
  by_cases h3 : d.val < 96
  · have h3' : d.val - 64 < 32 := by omega
    have e : (⟨64 + (d.val - 64), by omega⟩ : Fin 128) = d := Fin.ext (by show 64 + (d.val - 64) = d.val; omega)
    have e2 : (⟨64 + (32 + (d.val - 64)), by omega⟩ : Fin 128) = ⟨32 + d.val, by omega⟩ :=
      Fin.ext (by show 64 + (32 + (d.val - 64)) = 32 + d.val; omega)
    simp only [h1, h2, h3, h3', dif_pos, dif_neg, not_false_eq_true, e, e2]
  · have h3' : ¬ d.val - 64 < 32 := by omega
    have e : (⟨64 + (32 + (d.val - 64 - 32)), by omega⟩ : Fin 128) = d :=
      Fin.ext (by show 64 + (32 + (d.val - 64 - 32)) = d.val; omega)
    have e2 : (⟨64 + (d.val - 64 - 32), by omega⟩ : Fin 128) = ⟨d.val - 32, by omega⟩ :=
      Fin.ext (by show 64 + (d.val - 64 - 32) = d.val - 32; omega)
    have e3 : d.val - 64 - 32 = d.val - 96 := by omega
    simp only [h1, h2, h3, h3', dif_neg, not_false_eq_true, e, e2]
    rw [e3]

/-- The prepared query at an entry. -/
theorem queries_at (x : Fin 16384) (h : Fin 12) (d : Fin 128) : refQueries P g (ix3 x h d)
    = turned (normalized (fun k => P (ix2 x ⟨8704 + (h.val * 128 + k.val), by omega⟩)) (fun k => g (ix1 k))) x.val d := by
  refine (turned_at _ x h d).trans ?_
  simp only [normed_at]

/-- A score at an entry: the product of a query and a key over the head width's square root. -/
theorem scores_at (q : FVec Ideal S16384x12x128 .f32) (n : Fin 4) (h : Fin 3) (x s : Fin 16384) :
    refScores q K (ix4 n h x s)
      = Ideal.div (∑ d : Fin 128, K (ix2 s ⟨n.val * 128 + d.val, by omega⟩) * q (ix3 x ⟨n.val * 3 + h.val, by omega⟩ d))
          (Ideal.sqrt (Ideal.ofBits FTy.f32 1124073472#32)) := by
  pointwise [refScores]

/-- The greater of minus infinity and a real value is real. -/
theorem isReal_max {t : Shape} (A B : FVec Ideal t .f32) (i : t.Idx) (hA : A i = (⊥ : EReal)) (hB : IsReal (B i)) :
    IsReal (maximumf A B i) := by
  show IsReal (max (A i) (B i))
  rw [hA, max_eq_right bot_le]
  exact hB

/-- The maximum and the sum drop the axis of the keys. -/
theorem drops_keys : S4x3x16384x16384.Reduces [3] S4x3x16384 := by decide

/-- The maximum starts from minus infinity. -/
theorem minus_infinity : Ideal.ofBits FTy.f32 4286578688#32 = ⊥ := by simp [Ideal.ofBits, Ideal.ieee]

/-- Where all scores are real, so is the greatest. -/
theorem top_real (s : FVec Ideal S4x3x16384x16384 .f32) (hs : ∀ i, IsReal (s i)) (i : S4x3x16384.Idx) : IsReal (refTop s i) :=
  isReal_max _ _ i minus_infinity
    (isReal_reduce_max s _ (fun _ => minus_infinity) _ drops_keys _ (Nat.zero_lt_succ _) hs i)

/-- The exponential at an entry. -/
theorem raised_at (s : FVec Ideal S4x3x16384x16384 .f32) (M : FVec Ideal S4x3x16384 .f32) (n : Fin 4) (h : Fin 3)
    (x k : Fin 16384) : refRaised s M (ix4 n h x k) = Ideal.exp (s (ix4 n h x k) - M (ix3 n h x)) := by
  pointwise [refRaised]

/-- The softmax at an entry: the exponential over the sum of the exponentials. -/
theorem weights_at (e : FVec Ideal S4x3x16384x16384 .f32) (n : Fin 4) (h : Fin 3) (x k : Fin 16384) :
    refWeights e (ix4 n h x k) = Ideal.div (e (ix4 n h x k)) (∑ l, e (ix4 n h x l)) := by
  pointwise [refWeights]

/-- The mixture of the values at an entry. -/
theorem mixed_at (p : FVec Ideal S4x3x16384x16384 .f32) (x : Fin 16384) (j : Fin 1536) : refMixed p V (ix2 x j)
    = ∑ s : Fin 16384, V (ix4 ⟨j.val / 384, by omega⟩ ⟨s.val / 1024, by omega⟩ ⟨j.val % 128, by omega⟩ ⟨s.val % 1024, by omega⟩)
        * p (ix4 ⟨j.val / 384, by omega⟩ ⟨j.val / 128 % 3, by omega⟩ x s) := by
  pointwise [refMixed]

/-- The gated result at an entry. -/
theorem gated_at (o : FVec Ideal S16384x1536 .f32) (x : Fin 16384) (j : Fin 1536) : refGated o (refGates P) (ix2 x j)
    = o (ix2 x j) * (P (ix2 x ⟨11264 + j.val, by omega⟩) * Ideal.logistic (P (ix2 x ⟨11264 + j.val, by omega⟩))) := by
  pointwise [refGated, refGates]
  rfl

end Cert.Proof.DenseRef
end
-- ==== Proof.DenseKernel.lean ====
module

public import proofs.«01_k».proof.Proof.DenseReference

/-! The attention over all keys: the kernel's block and the reference's entry are the same mixture of values. -/

@[expose] public section

set_option maxRecDepth 16384

noncomputable section

namespace Cert.Proof.Dense

open Cert.KernelIdeal Cert.KernelIdeal.Gen
open Idealize.ShloMosaic Idealize.ShloMosaic.TcCoe Idealize.SL.Sem
open Idealize.ShloMosaic.Pipeline (Dat)

/-- The prepared queries' constant is one over the root of 128 times the logarithm of two. -/
theorem queryScale_eq : queryScale = (((Real.sqrt 128)⁻¹ * (Real.log 2)⁻¹ : ℝ) : EReal) :=
  IdealRules.named_const.ideal_named_scalar _ _ _ _ rfl

/-- Two to the power of the scaled product is the exponential of the product over the root of 128. -/
theorem weight_score (k q : Fin 128 → EReal) (hk : ∀ d, IsReal (k d)) (hq : ∀ d, IsReal (q d)) :
    ∃ r : ℝ, FloatOps.exp2 (F := Ideal) (φ := .f32) (∑ d, k d * (q d * queryScale)) = ((Real.exp r : ℝ) : EReal)
      ∧ Ideal.div (∑ d, k d * q d) (Ideal.sqrt (Ideal.ofBits FTy.f32 1124073472#32)) = (r : EReal) := by
  choose k' hk using hk
  choose q' hq using hq
  have e : Ideal.ofBits FTy.f32 1124073472#32 = ((128 : ℝ) : EReal) := by
    simp [Ideal.ofBits, Ideal.ieee, -EReal.coe_mul]; norm_num
  have h1 : ∑ d, k d * (q d * queryScale)
      = (((∑ d, k' d * q' d) * ((Real.sqrt 128)⁻¹ * (Real.log 2)⁻¹) : ℝ) : EReal) := by
    rw [Finset.sum_mul, ← sum_coe]
    refine Finset.sum_congr rfl fun d _ => ?_
    rw [queryScale_eq, hk, hq, ← EReal.coe_mul, ← EReal.coe_mul, mul_assoc]
  have h2 : ∑ d, k d * q d = ((∑ d, k' d * q' d : ℝ) : EReal) := by
    rw [← sum_coe]
    exact Finset.sum_congr rfl fun d _ => by rw [hk, hq, EReal.coe_mul]
  have hs : Real.sqrt 128 ≠ 0 := by positivity
  have hl : Real.log 2 ≠ 0 := (Real.log_pos (by norm_num)).ne'
  refine ⟨(∑ d, k' d * q' d) * (Real.sqrt 128)⁻¹, ?_, ?_⟩
  · rw [h1]
    show Ideal.exp2 _ = _
    rw [Ideal.exp2_coe, Real.rpow_eq_pow, Real.rpow_def_of_pos (by norm_num)]
    congr 2
    field_simp
  · rw [h2, e, Ideal.sqrt_coe, if_neg (by norm_num), div_real _ hs, EReal.coe_mul]

/-! ### The reference -/

section
variable (P : FVec Ideal S16384x12800 .bf16) (g : FVec Ideal S128 .f32) (K : FVec Ideal S16384x512 .bf16)
  (V : FVec Ideal S4x16x144x1024 .bf16)

/-- Token `x`'s query head `j`, normalized and turned. -/
def query (x : Fin 16384) (j : ℕ) (hj : j < 12) : Fin 128 → EReal :=
  turned (normalized (fun k => P (ix2 x (headColumn (68 + j) (by omega) k))) (fun k => g (ix1 k))) x.val

/-- The weight key `s` of key/value head `n` has for token `x`'s query head `j`. -/
def weight (n : Fin 4) (x : Fin 16384) (j : ℕ) (hj : j < 12) (s : Fin 16384) : EReal :=
  FloatOps.exp2 (F := Ideal) (φ := .f32)
    (∑ d : Fin 128, K (ix2 s ⟨128 * n.val + d.val, by omega⟩) * (query P g x j hj d * queryScale))

/-- One entry of the result, at head `3 n + h` and entry `d` of that head. -/
def entry (x : Fin 16384) (n : Fin 4) (h : Fin 3) (d : Fin 128) : EReal :=
  Ideal.div (∑ s : Fin 16384, V (ix4 n ⟨s.val / 1024, by omega⟩ ⟨d.val, by omega⟩ ⟨s.val % 1024, by omega⟩)
      * weight P g K n x (3 * n.val + h.val) (by omega) s)
    (∑ s : Fin 16384, weight P g K n x (3 * n.val + h.val) (by omega) s)
    * (P (ix2 x (headColumn (88 + (3 * n.val + h.val)) (by omega) d))
      * Ideal.logistic (P (ix2 x (headColumn (88 + (3 * n.val + h.val)) (by omega) d))))

/-- What is asked of the arguments: real queries, keys and gain. -/
structure RealArguments : Prop where
  queries : ∀ (x : Fin 16384) (j : Fin 1536), IsReal (P (ix2 x ⟨8704 + j.val, by omega⟩))
  keys : ∀ (s : Fin 16384) (j : Fin 512), IsReal (K (ix2 s j))
  gain : ∀ d : Fin 128, IsReal (g (ix1 d))

variable (H : RealArguments P g K)
include H

/-- A prepared query is real. -/
theorem isReal_query (x : Fin 16384) (j : ℕ) (hj : j < 12) (d : Fin 128) : IsReal (query P g x j hj d) :=
  isReal_turned _ (isReal_normalized _ _ (fun k => by
    have e : headColumn (68 + j) (by omega) k = ⟨8704 + (⟨128 * j + k.val, by omega⟩ : Fin 1536).val, by omega⟩ :=
      Fin.ext (by show 128 * (68 + j) + k.val = 8704 + (128 * j + k.val); omega)
    rw [e]
    exact H.queries x _) H.gain) _ d

omit H in
theorem query_reference (x : Fin 16384) (n : Fin 4) (h : Fin 3) (d : Fin 128) :
    DenseRef.refQueries P g (ix3 x ⟨n.val * 3 + h.val, by omega⟩ d) = query P g x (3 * n.val + h.val) (by omega) d := by
  refine (DenseRef.queries_at P g x _ d).trans ?_
  unfold query
  refine congrArg (fun y => turned (normalized y _) x.val d) (funext fun k => congrArg (fun j => P (ix2 x j)) (Fin.ext ?_))
  show 8704 + ((n.val * 3 + h.val) * 128 + k.val) = 128 * (68 + (3 * n.val + h.val)) + k.val
  omega

/-- Every score is real, and the kernel's weight is its exponential. -/
theorem score (n : Fin 4) (h : Fin 3) (x s : Fin 16384) : ∃ r : ℝ,
    weight P g K n x (3 * n.val + h.val) (by omega) s = ((Real.exp r : ℝ) : EReal)
      ∧ DenseRef.refScores (DenseRef.refQueries P g) K (ix4 n h x s) = (r : EReal) := by
  obtain ⟨r, h1, h2⟩ := weight_score (fun d => K (ix2 s ⟨128 * n.val + d.val, by omega⟩))
    (query P g x (3 * n.val + h.val) (by omega)) (fun d => H.keys s _) (isReal_query P g K H x _ _)
  refine ⟨r, h1, (DenseRef.scores_at K _ n h x s).trans (Eq.trans ?_ h2)⟩
  refine congrArg (fun a => Ideal.div a _) (Finset.sum_congr rfl fun d _ => ?_)
  rw [query_reference]
  exact congrArg (fun j => K (ix2 s j) * _) (Fin.ext (by show n.val * 128 + d.val = 128 * n.val + d.val; omega))

/-- The reference's scores are real. -/
theorem scores_real (i : Cert.ReferenceIdeal.S4x3x16384x16384.Idx) :
    IsReal (DenseRef.refScores (DenseRef.refQueries P g) K i) := by
  obtain ⟨r, _, h2⟩ := score P g K H (i 0) (i 1) (i 2) (i 3)
  have e : i = ix4 (i 0 : Fin 4) (i 1 : Fin 3) (i 2 : Fin 16384) (i 3 : Fin 16384) := by
    funext a
    match a with
    | ⟨0, _⟩ => rfl
    | ⟨1, _⟩ => rfl
    | ⟨2, _⟩ => rfl
    | ⟨3, _⟩ => rfl
  rw [e]
  exact ⟨r, h2⟩

/-- The reference's weights, by real scores whose exponentials are the kernel's weights. -/
theorem weights_reference (n : Fin 4) (h : Fin 3) (x : Fin 16384) : ∃ (r : Fin 16384 → ℝ) (M : ℝ),
    (∀ s, weight P g K n x (3 * n.val + h.val) (by omega) s = ((Real.exp (r s) : ℝ) : EReal))
    ∧ ∀ s, DenseRef.refWeights (DenseRef.refRaised (DenseRef.refScores (DenseRef.refQueries P g) K)
        (DenseRef.refTop (DenseRef.refScores (DenseRef.refQueries P g) K))) (ix4 n h x s)
      = Ideal.div (Ideal.exp ((r s : EReal) - (M : EReal))) (∑ l, Ideal.exp ((r l : EReal) - (M : EReal))) := by
  obtain ⟨M, hM⟩ := DenseRef.top_real _ (scores_real P g K H) (ix3 n h x)
  choose r hw hs using score P g K H n h x
  refine ⟨r, M, hw, fun s => (DenseRef.weights_at _ n h x s).trans ?_⟩
  have e : ∀ l, DenseRef.refRaised (DenseRef.refScores (DenseRef.refQueries P g) K)
      (DenseRef.refTop (DenseRef.refScores (DenseRef.refQueries P g) K)) (ix4 n h x l)
        = Ideal.exp ((r l : EReal) - (M : EReal)) := fun l =>
    (DenseRef.raised_at _ _ n h x l).trans (by rw [hM, hs])
  rw [e]
  exact congrArg _ (Finset.sum_congr rfl fun l _ => e l)

/-- The reference's entry. -/
theorem reference_entry (x : Fin 16384) (j : Fin 1536) (n : Fin 4) (h : Fin 3) (d : Fin 128)
    (e : j.val = 384 * n.val + (128 * h.val + d.val)) :
    DenseRef.refResult P g K V (ix2 x j) = entry P g K V x n h d := by
  have hn : (⟨j.val / 384, by omega⟩ : Fin 4) = n := Fin.ext (by show j.val / 384 = n.val; omega)
  have hh : (⟨j.val / 128 % 3, by omega⟩ : Fin 3) = h := Fin.ext (by show j.val / 128 % 3 = h.val; omega)
  have hd : (⟨j.val % 128, by omega⟩ : Fin 144) = ⟨d.val, by omega⟩ := Fin.ext (by show j.val % 128 = d.val; omega)
  have hz : (⟨11264 + j.val, by omega⟩ : Fin 12800) = headColumn (88 + (3 * n.val + h.val)) (by omega) d :=
    Fin.ext (by show 11264 + j.val = 128 * (88 + (3 * n.val + h.val)) + d.val; omega)
  obtain ⟨r, M, hw, hp⟩ := weights_reference P g K H n h x
  unfold DenseRef.refResult
  rw [DenseRef.gated_at, DenseRef.mixed_at, hz, hn, hh, hd]
  unfold entry
  have e1 : ∑ s : Fin 16384, weight P g K n x (3 * n.val + h.val) (by omega) s
      = ∑ s : Fin 16384, ((Real.exp (r s) : ℝ) : EReal) := Finset.sum_congr rfl fun s _ => hw s
  have e2 : ∀ f : Fin 16384 → EReal, ∑ s : Fin 16384, f s * weight P g K n x (3 * n.val + h.val) (by omega) s
      = ∑ s : Fin 16384, f s * ((Real.exp (r s) : ℝ) : EReal) := fun f => Finset.sum_congr rfl fun s _ => by rw [hw s]
  rw [e1, e2, softmax_mix _ r M]
  simp only [hp]

end

end Cert.Proof.Dense
end
-- ==== Proof.DenseValue.lean ====
module

public import proofs.«01_k».proof.Proof.DenseKernel
public import proofs.«01_k».proof.Defs
public import proofs.«01_k».proof.Proof.Gen.Pre_finite_and_ones

/-! The attention over all keys: what the kernel leaves is the reference's result. -/

@[expose] public section

set_option maxRecDepth 16384

noncomputable section

open Idealize.ShloMosaic Idealize.ShloMosaic.TcCoe Idealize.SL.Sem

namespace Cert.Proof.Dense

open Cert.KernelIdeal Cert.KernelIdeal.Gen
open Idealize.ShloMosaic.Pipeline (Dat)

variable (m : (ℓ : Loc nD τ sig) → Buf (Elt Ideal) ℓ) (c : Dev nD) (t : Fin cfg0.N)

/-- The loop makes four trips. -/
theorem four_trips : k0_t1_loop.trips = 4 := by decide +kernel

/-- The four trips' sums are the sum over the sixteen blocks of keys. -/
theorem sums_eq (K : Vec Ideal S16384x128 .bf16) (V : Vec Ideal S1x16x144x1024 .bf16) (q : Vec Ideal S1x128x3072 .bf16)
    (e : Fin 144) (y : Fin 3072) : sums K V q 4 (ix3 (0 : Fin 1) e y) = ∑ b : Fin 16, part K V q b e y := by
  have h : ∀ n : ℕ, n < 4 → n < k0_t1_loop.trips := fun n hn => by rw [four_trips]; exact hn
  let f : ℕ → EReal := fun b => if hb : b < 16 then part K V q ⟨b, hb⟩ e y else 0
  have hf : ∀ (b : ℕ) (hb : b < 16), part K V q ⟨b, hb⟩ e y = f b := fun b hb => by
    show _ = dite _ _ _
    rw [dif_pos hb]
  have hsum : ∑ b : Fin 16, part K V q b e y = ∑ b ∈ Finset.range 16, f b := by
    rw [Finset.sum_range]
    exact Finset.sum_congr rfl fun b _ => hf b.val b.isLt
  have trip : ∀ (n : ℕ) (hn : n < 4), sums K V q (n + 1) (ix3 (0 : Fin 1) e y) = sums K V q n (ix3 (0 : Fin 1) e y)
      + (f (4 * n) + f (4 * n + 1) + f (4 * n + 2) + f (4 * n + 3)) := fun n hn => by
    rw [sums, dif_pos (h n hn)]
    unfold tripOut
    rw [← hf _ (by omega), ← hf _ (by omega), ← hf _ (by omega), ← hf _ (by omega)]
    rfl
  rw [hsum, trip 3 (by omega), trip 2 (by omega), trip 1 (by omega), trip 0 (by omega)]
  simp only [Finset.sum_range_succ, Finset.sum_range_zero, Nat.mul_zero, Nat.mul_one, Nat.zero_add, Nat.reduceMul, Nat.reduceAdd]
  have z : sums K V q 0 (ix3 (0 : Fin 1) e y) = (0 : EReal) := rfl
  rw [z]
  abel

/-- The sum over the sixteen blocks of 1024 keys is the sum over all the keys. -/
theorem sums_all (K : Vec Ideal S16384x128 .bf16) (V : Vec Ideal S1x16x144x1024 .bf16) (q : Vec Ideal S1x128x3072 .bf16)
    (e : Fin 144) (y : Fin 3072) : sums K V q 4 (ix3 (0 : Fin 1) e y)
      = ∑ s : Fin 16384, V (ix4 (0 : Fin 1) ⟨s.val / 1024, by omega⟩ e ⟨s.val % 1024, by omega⟩)
          * FloatOps.exp2 (F := Ideal) (φ := .f32) (∑ d : Fin 128, K (ix2 s d) * q (ix3 (0 : Fin 1) d y)) := by
  rw [sums_eq]
  symm
  refine Fin.sum_divmod_congr (A := 16) (S := 1024) (f := fun b s => V (ix4 (0 : Fin 1) b e s)
    * FloatOps.exp2 (F := Ideal) (φ := .f32) (∑ d : Fin 128, K (ix2 (⟨1024 * b.val + s.val, by omega⟩ : Fin 16384) d) * q (ix3 (0 : Fin 1) d y)))
    (fun s ha hs => ?_) rfl
  have e1 : (⟨1024 * (⟨s.val / 1024, ha⟩ : Fin 16).val + (⟨s.val % 1024, hs⟩ : Fin 1024).val, by
      show 1024 * (s.val / 1024) + s.val % 1024 < 16384; omega⟩ : Fin 16384) = s :=
    Fin.ext (by show 1024 * (s.val / 1024) + s.val % 1024 = s.val; omega)
  rw [e1]

/-- The argument arrays. -/
abbrev argP : Vec Ideal S16384x12800 .bf16 := m ((c.tc : Thread nD τ).loc main_arg0)
/-- The keys. -/
abbrev argK : Vec Ideal S16384x512 .bf16 := m ((c.tc : Thread nD τ).loc main_arg1)
/-- The values and the rows below them. -/
abbrev argV : Vec Ideal S4x16x144x1024 .bf16 := m ((c.tc : Thread nD τ).loc main_arg2)
/-- The gain of the queries. -/
abbrev argG : Vec Ideal S128 .f32 := m ((c.tc : Thread nD τ).loc main_arg3)

/-- A block's prepared queries, from the projections' column block `j` that it stages. -/
theorem prepared_eq (X : Vec Ideal S1024x128 .bf16) (j : ℕ) (hj : j < 12) (r : Fin 1024)
    (hX : ∀ d, X (ix2 r d) = argP m c (ix2 (token t r) (headColumn (68 + j) (by omega) d))) (d : Fin 128) :
    prepared X (iblk m c 10 t) (iblk m c 8 t) (iblk m c 9 t) d r
      = query (argP m c) (argG m c) (token t r) j hj d * queryScale := by
  unfold prepared
  have hn : normalized (fun k => X (ix2 r k)) (fun k => iblk m c 10 t (ix2 k 0))
      = normalized (fun k => argP m c (ix2 (token t r) (headColumn (68 + j) (by omega) k))) (fun k => argG m c (ix1 k)) := by
    refine congrArg₂ normalized (funext hX) (funext fun k => read_gain m c t k)
  rw [hn, read_cos, read_sin]
  exact congrArg (· * queryScale) (table_turn _ (token t r) d)

/-- A column depends on the number of its head alone. -/
theorem headColumn_congr {j j' : ℕ} {hj : j < 100} {hj' : j' < 100} (e : j = j') {d : Fin 128} :
    headColumn j hj d = headColumn j' hj' d := by
  subst e
  rfl

/-- An index of a prepared head is given by its entry and its token. -/
theorem index_eq (x : S1x128x1024.Idx) (d : Fin 128) (r : Fin 1024) (hd : (x 1).val = d.val) (hr : (x 2).val = r.val) :
    x = ix3 (0 : Fin 1) d r := by
  funext a
  match a with
  | ⟨0, _⟩ => exact Fin.ext (Nat.lt_one_iff.1 (x 0 : Fin 1).isLt)
  | ⟨1, _⟩ => exact Fin.ext hd
  | ⟨2, _⟩ => exact Fin.ext hr

/-- The prepared queries of one of the three heads of a block. -/
theorem queries_head (x : S1x128x3072.Idx) (h : Fin 3) (r : Fin 1024) (d : Fin 128) (hd : (x 1).val = d.val)
    (hr : (x 2).val = 1024 * h.val + r.val) : queries m c t x
      = query (argP m c) (argG m c) (token t r) (3 * (kvHead t).val + h.val) (by omega) d * queryScale := by
  unfold queries
  canon_tiles x hh
  · obtain rfl : h = 2 := Fin.ext (by show h.val = 2; omega)
    rw [index_eq x d r (by omega) (by omega), prepared_2]
    exact prepared_eq m c t _ _ _ r (fun k => (read_query_2 m c t r k).trans
      (congrArg (fun j => argP m c (ix2 (token t r) j)) (headColumn_congr (by show 70 + 3 * (kvHead t).val = 68 + (3 * (kvHead t).val + 2); omega)))) d
  · obtain rfl : h = 1 := Fin.ext (by show h.val = 1; omega)
    rw [index_eq x d r (by omega) (by omega), prepared_1]
    exact prepared_eq m c t _ _ _ r (fun k => (read_query_1 m c t r k).trans
      (congrArg (fun j => argP m c (ix2 (token t r) j)) (headColumn_congr (by show 69 + 3 * (kvHead t).val = 68 + (3 * (kvHead t).val + 1); omega)))) d
  · obtain rfl : h = 0 := Fin.ext (by show h.val = 0; omega)
    rw [index_eq x d r (by omega) (by omega), prepared_0]
    exact prepared_eq m c t _ _ _ r (fun k => (read_query_0 m c t r k).trans
      (congrArg (fun j => argP m c (ix2 (token t r) j)) (headColumn_congr (by show 68 + 3 * (kvHead t).val = 68 + (3 * (kvHead t).val + 0); omega)))) d

/-- The sums over the keys, at one entry of one of a block's heads. -/
theorem total_at (e : Fin 144) (h : Fin 3) (r : Fin 1024) :
    total m c t (ix3 (0 : Fin 1) e ⟨1024 * h.val + r.val, by omega⟩)
      = ∑ s : Fin 16384, argV m c (ix4 (kvHead t) ⟨s.val / 1024, by omega⟩ e ⟨s.val % 1024, by omega⟩)
          * weight (argP m c) (argG m c) (argK m c) (kvHead t) (token t r) (3 * (kvHead t).val + h.val) (by omega) s := by
  unfold total
  rw [sums_all]
  refine Finset.sum_congr rfl fun s _ => ?_
  rw [read_value]
  refine congrArg (fun w => _ * FloatOps.exp2 (F := Ideal) (φ := .f32) w) (Finset.sum_congr rfl fun d _ => ?_)
  rw [read_key, queries_head m c t _ h r d rfl rfl]

/-- Where the values' row 128 is all ones, each entry of a block is the result's. -/
theorem block_entry (ones : ∀ (n : Fin 4) (b : Fin 16) (s : Fin 1024), argV m c (ix4 n b (128 : Fin 144) s) = (1 : EReal))
    (x : S1024x384.Idx) (h : Fin 3) (r : Fin 1024) (d : Fin 128) (hr : (x 0).val = r.val) (hd : (x 1).val = 128 * h.val + d.val) :
    headsOut (total m c t) (iblk m c 3 t) (iblk m c 4 t) (iblk m c 5 t) x
      = entry (argP m c) (argG m c) (argK m c) (argV m c) (token t r) (kvHead t) h d := by
  have hg : gateOf (iblk m c 3 t) (iblk m c 4 t) (iblk m c 5 t) h.val (ix2 r d)
      = argP m c (ix2 (token t r) (headColumn (88 + (3 * (kvHead t).val + h.val)) (by omega) d)) := by
    match h with
    | ⟨0, _⟩ => exact (read_gate_0 m c t r d).trans (congrArg (fun j => argP m c (ix2 (token t r) j))
        (headColumn_congr (by show 88 + 3 * (kvHead t).val = 88 + (3 * (kvHead t).val + 0); omega)))
    | ⟨1, _⟩ => exact (read_gate_1 m c t r d).trans (congrArg (fun j => argP m c (ix2 (token t r) j))
        (headColumn_congr (by show 89 + 3 * (kvHead t).val = 88 + (3 * (kvHead t).val + 1); omega)))
    | ⟨2, _⟩ => exact (read_gate_2 m c t r d).trans (congrArg (fun j => argP m c (ix2 (token t r) j))
        (headColumn_congr (by show 90 + 3 * (kvHead t).val = 88 + (3 * (kvHead t).val + 2); omega)))
  refine (headsOut_at _ _ _ _ x h (ix2 r d) hr hd).trans ?_
  show headOut (total m c t) (gateOf (iblk m c 3 t) (iblk m c 4 t) (iblk m c 5 t) h.val) h r d = _
  unfold headOut entry
  rw [hg, total_at, total_at]
  simp only [ones, one_mul]
  rfl

/-- Where an index of a grid point's block of the result stands in the whole array. -/
theorem result_place (y : S1024x384.Idx) (r : Fin 1024) (j : Fin 384) (hr : (y 0).val = r.val) (hj : (y 1).val = j.val) :
    (win0_11.blk t).view.emb y = (ix2 (token t r) ⟨384 * (kvHead t).val + j.val, by omega⟩ : S16384x1536.Idx) := by
  have hi : win0_11.index t = ![(grid0.coords t 1).val, (grid0.coords t 0).val] := by simp only [block_index t]
  funext a
  match a with
  | ⟨0, _⟩ =>
    refine Fin.ext ((win0_11.rect_emb_val t y 0).trans ?_)
    rw [hi]
    show (grid0.coords t 1).val * 1024 + (y 0).val = 1024 * (grid0.coords t 1).val + r.val
    omega
  | ⟨1, _⟩ =>
    refine Fin.ext ((win0_11.rect_emb_val t y 1).trans ?_)
    rw [hi]
    show (grid0.coords t 0).val * 384 + (y 1).val = 384 * (grid0.coords t 0).val + j.val
    omega

/-- The kernel leaves the reference's result. -/
theorem result_eq (H : RealArguments (argP m c) (argG m c) (argK m c))
    (ones : ∀ (n : Fin 4) (b : Fin 16) (s : Fin 1024), argV m c (ix4 n b (128 : Fin 144) s) = (1 : EReal)) :
    (dats m 0 c).arrAt 11 (cfgs 0).N = DenseRef.refResult (argP m c) (argG m c) (argK m c) (argV m c) := by
  refine (dats m 0 c).arrAt_eq_of_covers 11 _ (by decide +kernel) fun t _ y => ?_
  blk_simp
  rw [after0_11]
  have hy : (y 1 : Fin 384).val < 384 := (y 1 : Fin 384).isLt
  refine Eq.trans (congrFun (block_out m c t) y) ?_
  rw [block_entry m c t ones y ⟨(y 1 : Fin 384).val / 128, by omega⟩ (y 0 : Fin 1024) ⟨(y 1 : Fin 384).val % 128, by omega⟩ rfl
    (by show (y 1 : Fin 384).val = 128 * ((y 1 : Fin 384).val / 128) + (y 1 : Fin 384).val % 128; omega),
    result_place t y (y 0 : Fin 1024) (y 1 : Fin 384) rfl rfl]
  exact (reference_entry _ _ _ _ H _ _ (kvHead t) ⟨(y 1 : Fin 384).val / 128, by omega⟩ ⟨(y 1 : Fin 384).val % 128, by omega⟩
    (by show 384 * (kvHead t).val + (y 1 : Fin 384).val
          = 384 * (kvHead t).val + (128 * ((y 1 : Fin 384).val / 128) + (y 1 : Fin 384).val % 128); omega)).symm

/-- A value whose magnitude compares below infinity is a real. -/
theorem isReal_of_abs_lt {x : EReal}
    (h : BitVec.ofBool (decide (FloatOps.hostAbsf (F := Ideal) (φ := .f32) x < Ideal.ofBits .f32 0x7F800000#32)) = 1#1) : IsReal x := by
  have e : Ideal.ofBits .f32 0x7F800000#32 = (⊤ : EReal) := by simp [Ideal.ofBits, Ideal.ieee]
  rw [e] at h
  have h' : FloatOps.hostAbsf (F := Ideal) (φ := .f32) x < (⊤ : EReal) := by
    by_contra hn
    rw [decide_eq_false hn] at h
    exact absurd h (by decide)
  have h'' : max x (-x) < (⊤ : EReal) := h'
  induction x using EReal.rec with
  | bot => simp at h''
  | coe r => exact ⟨r, rfl⟩
  | top => simp at h''

/-- The queries, the keys and the gain are real where the precondition holds. -/
theorem real_arguments (hpre : Cert.Pre_KernelIdeal_finite_and_ones m) : RealArguments (argP m c) (argG m c) (argK m c) := by
  obtain ⟨h0, h1, -, h3⟩ := hpre c
  refine ⟨fun x j => ?_, fun s j => ?_, fun d => ?_⟩
  · have h := congrFun h0 (ix2 x j)
    pointwise [Cert.Pre_finite_and_ones.fn] at h
    exact isReal_of_abs_lt h
  · have h := congrFun h1 (ix2 s j)
    pointwise [Cert.Pre_finite_and_ones.fn] at h
    exact isReal_of_abs_lt h
  · have h := congrFun h3 (ix1 d)
    pointwise [Cert.Pre_finite_and_ones.fn] at h
    exact isReal_of_abs_lt h

/-- The values' row 128 is all ones where the precondition holds. -/
theorem ones_row (hpre : Cert.Pre_KernelIdeal_finite_and_ones m) (n : Fin 4) (b : Fin 16) (s : Fin 1024) :
    argV m c (ix4 n b (128 : Fin 144) s) = (1 : EReal) := by
  have h := congrFun (hpre c).2.2.1 (ix3 n b s)
  pointwise [Cert.Pre_finite_and_ones.fn] at h
  by_contra hn
  rw [decide_eq_false hn] at h
  exact absurd h (by decide)

end Cert.Proof.Dense

namespace Cert.Proof

/-- The attention kernel and its reference leave the same result and keep their arguments, wherever the queries, keys and
    gain are finite and the values' row 128 is all ones. -/
theorem dense_attention : Cert.algebraic_KernelIdeal_ReferenceIdeal_pre_finite_and_ones := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  rw [DenseRef.result_staged, (hagree c).1, (hagree c).2.1, (hagree c).2.2.1, (hagree c).2.2.2]
  exact (Dense.result_eq m c (Dense.real_arguments m c hpre) (Dense.ones_row m c hpre)).symm

end Cert.Proof

end
-- ==== Proof.ModulationValue.lean ====
/-
  The modulation of all layers: each grid point multiplies the conditioning row, after its sigmoid gate, by 1024 columns of
  one layer's weights and adds the bias.
-/
module

public import proofs.«01_k».proof.Defs
public import proofs.«01_k».proof.Proof.Gen.ModulationIdeal.Value
public import proofs.«01_k».proof.Proof.Gen.ModRefIdeal.Run
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.Modulate

open Cert.ModulationIdeal Cert.ModulationIdeal.Gen

variable (m : (ℓ : Loc nD τ sig) → Buf (Elt Ideal) ℓ)

/-- The gated conditioning row times each layer's weights, plus the bias. -/
def table (x : FVec Ideal S1x4096 .f32) (w : FVec Ideal S4x4096x12288 .f32) (b : FVec Ideal S4x12288 .f32) :
    FVec Ideal S4x1x12288 .f32 := fun i =>
  (∑ k : Fin 4096, x (ix2 (0 : Fin 1) k) * Ideal.logistic (x (ix2 (0 : Fin 1) k)) * w (ix3 (i 0 : Fin 4) k (i 2 : Fin 12288)))
    + b (ix2 (i 0 : Fin 4) (i 2 : Fin 12288))

/-- Which block each window takes at each point of the grid. -/
theorem block_index : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- What a point stores at an index of its block is the table's entry at the index's place in the array. -/
theorem block_value (c : Dev nD) (t : Fin cfg0.N) (y) : k0_pay1 (iblk m c 0 t) (iblk m c 1 t) (iblk m c 2 t) y
    = table (m ((c : Thread nD τ).loc main_arg0)) (m ((c : Thread nD τ).loc main_arg1)) (m ((c : Thread nD τ).loc main_arg2)) (((cfg0.win 3).blk t).view.emb y) := by
  unfold table
  pointwise [k0_pay1]
  blk_point [iblk, V, block_index t]

/-- The result array after the run is the table. -/
theorem result_eq (c : Dev nD) : (dats m 0 c).arrAt 3 (cfgs 0).N = table (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact block_value m c t y

end Cert.Proof.Modulate

namespace Cert.Proof

/-- The modulation's kernel and its reference leave the same result and keep their arguments. -/
theorem modulation : Cert.algebraic_ModulationIdeal_ModRefIdeal := by
  intro m ρ m' ρ' _ hagree
  refine ⟨_, Cert.ModulationIdeal.Value.run_blocks m ρ, ?_⟩
  refine (θ_run Cert.ModRefIdeal.defs _ _).mono (fun _ h c => ⟨(h c).1.trans ?_, (h c).2⟩)
    (Cert.ModRefIdeal.Value.run (F := Ideal) m' ρ')
  rw [(hagree c).1, (hagree c).2.1, (hagree c).2.2, Modulate.result_eq]
  funext i
  idx_vars i
  unfold Modulate.table
  match i0 with
  | ⟨0, _⟩ => pointwise; rfl
  | ⟨1, _⟩ => pointwise; rfl
  | ⟨2, _⟩ => pointwise; rfl
  | ⟨3, _⟩ => pointwise; rfl

end Cert.Proof

end
-- ==== Proof.RowNorm.lean ====
module

public import Idealize.ShloMosaic.Lib.Pipeline.ValueKit

/-! The norm of one row of 4096 entries, which the calls at a layer's two ends share. -/

@[expose] public section

noncomputable section

namespace Cert.Proof

open Idealize.ShloMosaic

/-- Entry `d` of a row over its root mean square (4096 entries, with 1e-6 added to the mean), times a gain. -/
def normed (x : Fin 4096 → EReal) (g : EReal) (d : Fin 4096) : EReal :=
  x d * Ideal.rsqrt (Ideal.div (∑ k, x k * x k) (Ideal.ofBits .f32 0x45800000#32) + Ideal.ofBits .f32 0x358637BD#32) * g

end Cert.Proof

end
-- ==== Proof.PrenormValue.lean ====
/-
  The norm and modulation before the first layer: each grid point takes 512 rows, and each row is normalized, scaled and
  shifted by itself.
-/
module

public import proofs.«01_k».proof.Defs
public import proofs.«01_k».proof.Proof.RowNorm
public import proofs.«01_k».proof.Proof.Gen.PrenormIdeal.Value
public import proofs.«01_k».proof.Proof.Gen.PreRefIdeal.Run
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.PreNorm

open Cert.PrenormIdeal Cert.PrenormIdeal.Gen

variable (m : (ℓ : Loc nD τ sig) → Buf (Elt Ideal) ℓ)

/-- The normalized rows, times one plus the scale, plus the shift. -/
def rows (x : FVec Ideal S16384x4096 .f32) (g s h : FVec Ideal S4096 .f32) : FVec Ideal S16384x4096 .bf16 := fun i =>
  normed (fun k => x (ix2 (i 0 : Fin 16384) k)) (g (ix1 (i 1 : Fin 4096))) (i 1) * (1 + s (ix1 (i 1 : Fin 4096)))
    + h (ix1 (i 1 : Fin 4096))

/-- Which block each window takes at each point of the grid. -/
theorem block_index : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

/-- What a point stores at an index of its block is the rows' entry at the index's place in the array. -/
theorem block_value (c : Dev nD) (t : Fin cfg0.N) (y) : k0_pay1 (iblk m c 0 t) (iblk m c 1 t) (iblk m c 2 t) (iblk m c 3 t) y
    = rows (m ((c : Thread nD τ).loc main_arg0)) (m ((c : Thread nD τ).loc main_arg1)) (m ((c : Thread nD τ).loc main_arg2))
        (m ((c : Thread nD τ).loc main_arg3)) (((cfg0.win 4).blk t).view.emb y) := by
  unfold rows normed
  pointwise [k0_pay1]
  blk_point [iblk, V, block_index t]

/-- The result array after the run is the rows. -/
theorem result_eq (c : Dev nD) : (dats m 0 c).arrAt 4 (cfgs 0).N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact block_value m c t y

end Cert.Proof.PreNorm

namespace Cert.Proof

/-- The first norm's kernel and its reference leave the same result and keep their arguments. -/
theorem prenorm : Cert.algebraic_PrenormIdeal_PreRefIdeal := by
  intro m ρ m' ρ' _ hagree
  refine ⟨_, Cert.PrenormIdeal.Value.run_blocks m ρ, ?_⟩
  refine (θ_run Cert.PreRefIdeal.defs _ _).mono (fun _ h c => ⟨(h c).1.trans ?_, (h c).2⟩)
    (Cert.PreRefIdeal.Value.run (F := Ideal) m' ρ')
  rw [(hagree c).1, (hagree c).2.1, (hagree c).2.2.1, (hagree c).2.2.2, PreNorm.result_eq]
  funext i
  idx_vars i
  unfold PreNorm.rows normed
  pointwise

end Cert.Proof

end
-- ==== Proof.PostnormValue.lean ====
/-
  The end of the last layer: each grid point takes 256 rows of the layer's input and of its mixed output; each row of the
  output is normalized, gated and added to the input's row.
-/
module

public import proofs.«01_k».proof.Defs
public import proofs.«01_k».proof.Proof.RowNorm
public import proofs.«01_k».proof.Proof.Gen.PostnormIdeal.Value
public import proofs.«01_k».proof.Proof.Gen.PostRefIdeal.Run
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.PostNorm

open Cert.PostnormIdeal Cert.PostnormIdeal.Gen

variable (m : (ℓ : Loc nD τ sig) → Buf (Elt Ideal) ℓ)

/-- The layer's input rows plus the gated norms of its output rows. -/
def rows (x : FVec Ideal S16384x4096 .f32) (y : FVec Ideal S16384x4096 .bf16) (g e : FVec Ideal S4096 .f32) :
    FVec Ideal S16384x4096 .f32 := fun i =>
  x i + e (ix1 (i 1 : Fin 4096)) * normed (fun k => y (ix2 (i 0 : Fin 16384) k)) (g (ix1 (i 1 : Fin 4096))) (i 1)

/-- Which block each window takes at each point of the grid. -/
theorem block_index : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- What a point stores at an index of its block is the rows' entry at the index's place in the array. -/
theorem block_value (c : Dev nD) (t : Fin cfg0.N) (y) : k0_pay1 (iblk m c 1 t) (iblk m c 2 t) (iblk m c 0 t) (iblk m c 3 t) y
    = rows (m ((c : Thread nD τ).loc main_arg0)) (m ((c : Thread nD τ).loc main_arg1)) (m ((c : Thread nD τ).loc main_arg2))
        (m ((c : Thread nD τ).loc main_arg3)) (((cfg0.win 4).blk t).view.emb y) := by
  unfold rows normed
  pointwise [k0_pay1]
  blk_point [iblk, V, block_index t]

/-- The result array after the run is the rows. -/
theorem result_eq (c : Dev nD) : (dats m 0 c).arrAt 4 (cfgs 0).N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact block_value m c t y

end Cert.Proof.PostNorm

namespace Cert.Proof

/-- The last layer's end and its reference leave the same result and keep their arguments. -/
theorem postnorm : Cert.algebraic_PostnormIdeal_PostRefIdeal := by
  intro m ρ m' ρ' _ hagree
  refine ⟨_, Cert.PostnormIdeal.Value.run_blocks m ρ, ?_⟩
  refine (θ_run Cert.PostRefIdeal.defs _ _).mono (fun _ h c => ⟨(h c).1.trans ?_, (h c).2⟩)
    (Cert.PostRefIdeal.Value.run (F := Ideal) m' ρ')
  rw [(hagree c).1, (hagree c).2.1, (hagree c).2.2.1, (hagree c).2.2.2, PostNorm.result_eq]
  funext i
  idx_vars i
  unfold PostNorm.rows normed
  pointwise

end Cert.Proof

end
-- ==== Proof.NextValue.lean ====
/-
  The end of a layer with the norm and modulation before the next: each grid point takes 256 rows of the layer's input and
  of its mixed output, and leaves the next layer's input and that input's normalized, scaled and shifted rows.
-/
module

public import proofs.«01_k».proof.Defs
public import proofs.«01_k».proof.Proof.RowNorm
public import proofs.«01_k».proof.Proof.Gen.NextIdeal.Value
public import proofs.«01_k».proof.Proof.Gen.NextRefIdeal.Run
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.NextLayer

open Cert.NextIdeal Cert.NextIdeal.Gen

variable (m : (ℓ : Loc nD τ sig) → Buf (Elt Ideal) ℓ)

/-- The layer's input rows plus the gated norms of its output rows. -/
def rows (x : FVec Ideal S16384x4096 .f32) (y : FVec Ideal S16384x4096 .bf16) (g e : FVec Ideal S4096 .f32) :
    FVec Ideal S16384x4096 .f32 := fun i =>
  x i + e (ix1 (i 1 : Fin 4096)) * normed (fun k => y (ix2 (i 0 : Fin 16384) k)) (g (ix1 (i 1 : Fin 4096))) (i 1)

/-- The norms of those sums, times one plus the scale, plus the shift. -/
def normRows (x : FVec Ideal S16384x4096 .f32) (y : FVec Ideal S16384x4096 .bf16) (g e g' s h : FVec Ideal S4096 .f32) :
    FVec Ideal S16384x4096 .bf16 := fun i =>
  normed (fun k => rows x y g e (ix2 (i 0 : Fin 16384) k)) (g' (ix1 (i 1 : Fin 4096))) (i 1) * (1 + s (ix1 (i 1 : Fin 4096)))
    + h (ix1 (i 1 : Fin 4096))

/-- Which block each window takes at each point of the grid. -/
theorem block_index : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_8.index t = ![t.val, 0] :=
  (by decide +kernel : ∀ t : Fin grid0.N, _)

/-- What a point stores at an index of its first block is the sums' entry at the index's place in the array. -/
theorem sum_value (c : Dev nD) (t : Fin cfg0.N) (y) : k0_pay2 (iblk m c 1 t) (iblk m c 2 t) (iblk m c 0 t) (iblk m c 3 t) y
    = rows (m ((c : Thread nD τ).loc main_arg0)) (m ((c : Thread nD τ).loc main_arg1)) (m ((c : Thread nD τ).loc main_arg2)) (m ((c : Thread nD τ).loc main_arg3))
        (((cfg0.win 7).blk t).view.emb y) := by
  unfold rows normed
  pointwise [k0_pay2]
  blk_point [iblk, V, block_index t]

set_option maxHeartbeats 4000000 in
/-- What a point stores at an index of its second block is the norms' entry at the index's place in the array. -/
theorem norm_value (c : Dev nD) (t : Fin cfg0.N) (y) :
    k0_pay1 (k0_pay3 (iblk m c 1 t) (iblk m c 2 t) (iblk m c 0 t) (iblk m c 3 t) (iblk m c 4 t)) (iblk m c 5 t) (iblk m c 6 t) y
    = normRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  unfold normRows rows normed
  pointwise [k0_pay1, k0_pay3, k0_pay2]
  blk_point [iblk, V, block_index t]

/-- The first result array after the run is the sums. -/
theorem sum_eq (c : Dev nD) : (dats m 0 c).arrAt 7 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact sum_value m c t y

/-- The second result array after the run is the norms. -/
theorem norm_eq (c : Dev nD) : (dats m 0 c).arrAt 8 (cfgs 0).N = normRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  exact norm_value m c t y

end Cert.Proof.NextLayer

namespace Cert.Proof

/-- A layer's end and its reference leave the same two results and keep their arguments. -/
theorem next_layer : Cert.algebraic_NextIdeal_NextRefIdeal := by
  intro m ρ m' ρ' _ hagree
  refine ⟨_, _, Cert.NextIdeal.Value.run_blocks m ρ, ?_⟩
  refine (θ_run Cert.NextRefIdeal.defs _ _).mono (fun _ h c => ⟨(h c).1.trans ?_, (h c).2.1.trans ?_, (h c).2.2⟩)
    (Cert.NextRefIdeal.Value.run (F := Ideal) m' ρ')
  · rw [(hagree c).1, (hagree c).2.1, (hagree c).2.2.1, (hagree c).2.2.2.1, NextLayer.sum_eq]
    funext i
    idx_vars i
    unfold NextLayer.rows normed
    pointwise
  · unfold Cert.NextRefIdeal.Value.res_main_v39
    rw [(hagree c).1, (hagree c).2.1, (hagree c).2.2.1, (hagree c).2.2.2.1, (hagree c).2.2.2.2.1, (hagree c).2.2.2.2.2.1,
      (hagree c).2.2.2.2.2.2, NextLayer.norm_eq]
    funext i
    idx_vars i
    unfold NextLayer.normRows NextLayer.rows normed
    pointwise

end Cert.Proof

end
-- ==== Proof.PrepBlocks.lean ====
/-
  The preparation of keys and values: what its grid points read. Point `t` takes the rows of 1024 tokens, of the column
  ranges that hold the three mixers' values and the dense attention's keys, and the tokens' columns of the rotary tables.
-/
module

public import proofs.«01_k».proof.Proof.DenseQueries
public import proofs.«01_k».proof.Proof.Gen.PrepIdeal.Value
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.Preparation

open Cert.PrepIdeal Cert.PrepIdeal.Gen
open Cert.Proof.Dense (cosTable sinTable)

variable (m : (ℓ : Loc nD τ sig) → Buf (Elt Ideal) ℓ) (c : Dev nD) (t : Fin cfg0.N)

/-- Which block each window takes at each point of the grid. -/
theorem block_index : ∀ t : Fin cfg0.N, win0_0.index t = ![t.val, 2] ∧ win0_1.index t = ![t.val, 29]
    ∧ win0_2.index t = ![t.val, 21] ∧ win0_3.index t = ![t.val, 20] ∧ win0_8.index t = ![0, t.val]
    ∧ win0_9.index t = ![0, t.val] ∧ win0_10.index t = ![0, 0] ∧ win0_11.index t = ![0, t.val, 0, 0]
    ∧ win0_12.index t = ![0, t.val, 0, 0] ∧ win0_13.index t = ![0, t.val, 0, 0] ∧ win0_14.index t = ![t.val, 0] :=
  (by decide +kernel : ∀ t : Fin grid0.N, _)

/-- The token of row `r` of a grid point's block. -/
def token (r : Fin 1024) : Fin 16384 := ⟨1024 * t.val + r.val, by
  have : t.val < 16 := t.isLt
  omega⟩

/-- The first mixer's values are the projections' columns from 3072 on. -/
theorem read_a (r : Fin 1024) (k : Fin 1536) :
    X0_0 m c t (ix2 r k) = m ((c : Thread nD τ).loc main_arg0) (ix2 (token t r) ⟨3072 + k.val, by omega⟩) := by
  unfold X0_0 Pipeline.Window.fill token
  rw [dif_pos (moved0_0 t _)]
  blk_point [iblk, V, block_index t]

/-- The second mixer's values are the projections' columns from 7424 on. -/
theorem read_b (r : Fin 1024) (k : Fin 256) :
    iblk m c 1 t (ix2 r k) = m ((c : Thread nD τ).loc main_arg0) (ix2 (token t r) ⟨7424 + k.val, by omega⟩) := by
  unfold token
  blk_point [iblk, V, block_index t]

/-- The third mixer's values are the projections' columns from 10752 on. -/
theorem read_c (r : Fin 1024) (k : Fin 512) :
    iblk m c 2 t (ix2 r k) = m ((c : Thread nD τ).loc main_arg0) (ix2 (token t r) ⟨10752 + k.val, by omega⟩) := by
  unfold token
  blk_point [iblk, V, block_index t]

/-- The third mixer's keys are the projections' columns from 10240 on. -/
theorem read_key (r : Fin 1024) (k : Fin 512) :
    iblk m c 3 t (ix2 r k) = m ((c : Thread nD τ).loc main_arg0) (ix2 (token t r) ⟨10240 + k.val, by omega⟩) := by
  unfold token
  blk_point [iblk, V, block_index t]

set_option maxHeartbeats 4000000 in
/-- The kernel is handed the table of cosines. -/
theorem cos_table : V m c main_v37 = cosTable := by
  unfold_abbrev_sides
  after_reads_simp
  rfl

set_option maxHeartbeats 4000000 in
/-- The kernel is handed the table of signed sines. -/
theorem sin_table : V m c main_v38 = sinTable := by
  unfold_abbrev_sides
  after_reads_simp
  rfl

set_option maxHeartbeats 4000000 in
/-- The kernel is handed the gain as a column. -/
theorem gain_column (d : Fin 128) : V m c main_v39 (ix2 d 0) = m ((c.tc : Thread nD τ).loc main_arg1) (ix1 d) := by
  unfold_abbrev_sides
  after_reads_simp
  pointwise []

/-- A block of a table holds the columns of its tokens. -/
theorem read_table (T : Vec Ideal S128x16384 .f32) (d : Fin 128) (r : Fin 1024) :
    T ((win0_8.blk t).view.emb (ix2 d r)) = T (ix2 d (token t r)) ∧ T ((win0_9.blk t).view.emb (ix2 d r)) = T (ix2 d (token t r)) := by
  unfold token
  constructor
  · blk_point [block_index t]
  · blk_point [block_index t]

/-- The block of cosines holds the cosines of its tokens' angles. -/
theorem read_cos (d : Fin 128) (r : Fin 1024) : iblk m c 8 t (ix2 d r) = cosTable (ix2 d (token t r)) :=
  (congrFun (cos_table m c) _).trans (read_table t cosTable d r).1

/-- The block of sines holds the sines of its tokens' angles. -/
theorem read_sin (d : Fin 128) (r : Fin 1024) : iblk m c 9 t (ix2 d r) = sinTable (ix2 d (token t r)) :=
  (congrFun (sin_table m c) _).trans (read_table t sinTable d r).2

/-- The block of the gain is the gain. -/
theorem read_gain (d : Fin 128) : iblk m c 10 t (ix2 d 0) = m ((c.tc : Thread nD τ).loc main_arg1) (ix1 d) := by
  have e : ∀ T : Vec Ideal S128x1 .f32, T ((win0_10.blk t).view.emb (ix2 d 0)) = T (ix2 d 0) := fun T => by
    blk_point [block_index t]
  exact (e (V m c main_v39)).trans (gain_column m c d)

end Cert.Proof.Preparation
end
-- ==== Proof.PrepKeys.lean ====
/-
  The preparation of keys and values: the array of keys. Each key head of a token is normalized and turned by the token's
  angles.
-/
module

public import proofs.«01_k».proof.Proof.PrepBlocks

@[expose] public section

set_option maxRecDepth 16384

noncomputable section

open Idealize.ShloMosaic Idealize.ShloMosaic.TcCoe Idealize.SL.Sem
open Idealize.ShloMosaic.Pipeline (Dat)

namespace Cert.Proof.Preparation

open Cert.PrepIdeal Cert.PrepIdeal.Gen
open Cert.Proof.Dense (cosTable sinTable normalized partner partner_read turned table_turn)

section
variable (X : Vec Ideal S1024x128 .bf16) (C S : Vec Ideal S128x1024 .f32) (G : Vec Ideal S128x1 .f32) (r : Fin 1024) (d : Fin 128)

/-- One prepared key entry, from a block of raw keys and the blocks of the two tables. -/
def prepared : EReal :=
  normalized (fun k => X (ix2 r k)) (fun k => G (ix2 k 0)) d * C (ix2 d r)
    + normalized (fun k => X (ix2 r k)) (fun k => G (ix2 k 0)) (partner d) * S (ix2 d r)

set_option maxHeartbeats 4000000 in
/-- Head 0 of the block of keys is stored as prepared. -/
theorem prepared_0 : k0_pay102 (k0_pay97 C) (k0_pay98 S) (k0_pay99 G) (k0_pay100 X) (k0_pay101 X) (ix2 r d) = prepared X C S G r d := by
  pointwise [k0_pay102, k0_pay97, k0_pay98, k0_pay99, k0_pay100, k0_pay101]
  unfold prepared
  rw [← partner_read d (normalized (fun k => X (ix2 r k)) (fun k => G (ix2 k 0)))]
  simp only [normalized]

set_option maxHeartbeats 4000000 in
/-- Head 1 of the block of keys is stored as prepared. -/
theorem prepared_1 : k0_pay103 (k0_pay97 C) (k0_pay98 S) (k0_pay99 G) X (ix2 r d) = prepared X C S G r d := by
  pointwise [k0_pay103, k0_pay97, k0_pay98, k0_pay99]
  unfold prepared
  rw [← partner_read d (normalized (fun k => X (ix2 r k)) (fun k => G (ix2 k 0)))]
  simp only [normalized]

set_option maxHeartbeats 4000000 in
/-- Head 2 of the block of keys is stored as prepared. -/
theorem prepared_2 : k0_pay106 (k0_pay97 C) (k0_pay98 S) (k0_pay99 G) (k0_pay104 X) (k0_pay105 X) (ix2 r d) = prepared X C S G r d := by
  pointwise [k0_pay106, k0_pay97, k0_pay98, k0_pay99, k0_pay104, k0_pay105]
  unfold prepared
  rw [← partner_read d (normalized (fun k => X (ix2 r k)) (fun k => G (ix2 k 0)))]
  simp only [normalized]

set_option maxHeartbeats 4000000 in
/-- Head 3 of the block of keys is stored as prepared. -/
theorem prepared_3 : k0_pay107 (k0_pay97 C) (k0_pay98 S) (k0_pay99 G) X (ix2 r d) = prepared X C S G r d := by
  pointwise [k0_pay107, k0_pay97, k0_pay98, k0_pay99]
  unfold prepared
  rw [← partner_read d (normalized (fun k => X (ix2 r k)) (fun k => G (ix2 k 0)))]
  simp only [normalized]

end

/-- The prepared key of token `x` at column `j` of the keys. -/
def key (P : Vec Ideal S16384x12800 .bf16) (g : Vec Ideal S128 .f32) (x : Fin 16384) (j : ℕ) (hj : j < 512) : EReal :=
  turned (normalized (fun k => P (ix2 x ⟨10240 + (j / 128 * 128 + k.val), by omega⟩)) (fun k => g (ix1 k))) x.val
    ⟨j % 128, by omega⟩

variable (m : (ℓ : Loc nD τ sig) → Buf (Elt Ideal) ℓ) (c : Dev nD) (t : Fin cfg0.N)

/-- A head of a block of keys, prepared. -/
theorem prepared_key (X : Vec Ideal S1024x128 .bf16) (h : Fin 4) (r : Fin 1024) (d : Fin 128) (j : ℕ) (hj : j < 512)
    (e : j = h.val * 128 + d.val)
    (hX : ∀ k : Fin 128, X (ix2 r k) = iblk m c 3 t (ix2 r ⟨h.val * 128 + k.val, by omega⟩)) :
    prepared X (iblk m c 8 t) (iblk m c 9 t) (iblk m c 10 t) r d
      = key (m ((c.tc : Thread nD τ).loc main_arg0)) (m ((c.tc : Thread nD τ).loc main_arg1)) (token t r) j hj := by
  subst e
  have e1 : (h.val * 128 + d.val) / 128 = h.val := by omega
  have e2 : (⟨(h.val * 128 + d.val) % 128, by omega⟩ : Fin 128) = d := Fin.ext (by show (h.val * 128 + d.val) % 128 = d.val; omega)
  unfold prepared key
  simp only [hX, read_key, read_gain, read_cos, read_sin, e1, e2]
  exact table_turn _ _ _

/-- The block of keys. -/
theorem block_key (y : S1024x512.Idx) (hr : (y 0).val < 1024) (hj : (y 1).val < 512) : (dats m 0 c).after 14 t y
    = key (m ((c.tc : Thread nD τ).loc main_arg0)) (m ((c.tc : Thread nD τ).loc main_arg1)) (token t ⟨(y 0).val, hr⟩) (y 1).val hj := by
  rw [after0_14]
  frame_out
  canon_tiles x hh
  case piece0 =>
    idx_vars x
    rw [show (⟨(y 0).val, hr⟩ : Fin 1024) = x0 from Fin.ext hh0]
    exact (prepared_3 _ _ _ _ _ _).trans (prepared_key m c t _ 3 x0 x1 _ hj (by show _ = 3 * 128 + _; omega) fun k => by
      pointwise [])
  case piece1 =>
    idx_vars x
    rw [show (⟨(y 0).val, hr⟩ : Fin 1024) = x0 from Fin.ext hh0]
    exact (prepared_2 _ _ _ _ _ _).trans (prepared_key m c t _ 2 x0 x1 _ hj (by show _ = 2 * 128 + _; omega) fun k => by
      pointwise [])
  case piece2 =>
    idx_vars x
    rw [show (⟨(y 0).val, hr⟩ : Fin 1024) = x0 from Fin.ext hh0]
    exact (prepared_1 _ _ _ _ _ _).trans (prepared_key m c t _ 1 x0 x1 _ hj (by show _ = 1 * 128 + _; omega) fun k => by
      pointwise [])
  case piece3 =>
    idx_vars x
    rw [show (⟨(y 0).val, hr⟩ : Fin 1024) = x0 from Fin.ext hh0]
    exact (prepared_0 _ _ _ _ _ _).trans (prepared_key m c t _ 0 x0 x1 _ hj (by show _ = 0 * 128 + _; omega) fun k => by
      pointwise [])

end Cert.Proof.Preparation
end
-- ==== Proof.PrepValues.lean ====
/-
  The preparation of keys and values: the three arrays of values. Each holds, by head and by chunk of tokens, the values'
  columns with the tokens running last, and after each head's 128 rows of values sixteen rows of ones.
-/
module

public import proofs.«01_k».proof.Proof.PrepBlocks

@[expose] public section

set_option maxRecDepth 16384

noncomputable section

open Idealize.ShloMosaic Idealize.ShloMosaic.TcCoe Idealize.SL.Sem
open Idealize.ShloMosaic.Pipeline (Dat)

namespace Cert.Proof.Preparation

open Cert.PrepIdeal Cert.PrepIdeal.Gen

/-- Row `e` of a head's values at token `s` of a chunk of `T` tokens: the projections' entry, or 1 past the head's width. -/
def values (P : Vec Ideal S16384x12800 .bf16) (first T head chunk e s : ℕ) : EReal :=
  if h : e < 128 ∧ T * chunk + s < 16384 ∧ first + 128 * head + e < 12800 then
    P (ix2 ⟨T * chunk + s, h.2.1⟩ ⟨first + 128 * head + e, h.2.2⟩)
  else 1

/-- Within the head's width the values are the projections'. -/
theorem values_eq {P : Vec Ideal S16384x12800 .bf16} {first T head chunk e s : ℕ} {r : Fin 16384} {k : Fin 12800}
    (he : e < 128) (hr : r.val = T * chunk + s) (hk : k.val = first + 128 * head + e) :
    P (ix2 r k) = values P first T head chunk e s := by
  unfold values
  rw [dif_pos ⟨he, hr ▸ r.isLt, hk ▸ k.isLt⟩]
  exact congrArg P (congrArg₂ ix2 (Fin.ext hr) (Fin.ext hk))

/-- Past the head's width they are 1. -/
theorem values_one {P : Vec Ideal S16384x12800 .bf16} {first T head chunk e s : ℕ} (he : 128 ≤ e) :
    (1 : EReal) = values P first T head chunk e s := by
  unfold values
  rw [dif_neg (fun h => absurd h.1 (by omega))]

variable (m : (ℓ : Loc nD τ sig) → Buf (Elt Ideal) ℓ) (c : Dev nD) (t : Fin cfg0.N)

/-- The block of the third mixer's values. -/
theorem block_c (y : S4x1x144x1024.Idx) (chunk : ℕ) (hc : chunk = t.val + (y 1).val) : (dats m 0 c).after 13 t y
    = values (m ((c.tc : Thread nD τ).loc main_arg0)) 10752 1024 (y 0).val chunk (y 2).val (y 3).val := by
  rw [after0_13]
  frame_out
  canon_tiles x hh using View.cover_of_tiledBy _ ![1, 1, 16, 1024] (by sl_kernel_rfl) y
  all_goals
    open_payloads
    idx_vars x
    pointwise []
    first
    | exact values_one (by omega)
    | rw [read_c]
      exact values_eq (by omega) (by simp only [token]; omega) (by dsimp only; omega)

set_option maxHeartbeats 8000000 in
/-- The block of the second mixer's values: four chunks of 256 tokens. -/
theorem block_b (y : S2x4x144x256.Idx) (chunk : ℕ) (hc : chunk = 4 * t.val + (y 1).val) : (dats m 0 c).after 12 t y
    = values (m ((c.tc : Thread nD τ).loc main_arg0)) 7424 256 (y 0).val chunk (y 2).val (y 3).val := by
  rw [after0_12]
  frame_out
  canon_tiles x hh using View.cover_of_tiledBy _ ![1, 1, 16, 256] (by sl_kernel_rfl) y
  all_goals
    open_payloads
    idx_vars x
    pointwise []
    first
    | exact values_one (by omega)
    | rw [read_b]
      exact values_eq (by omega) (by simp only [token]; omega) (by dsimp only; omega)

set_option maxHeartbeats 16000000 in
/-- The block of the first mixer's values: two chunks of 512 tokens. -/
theorem block_a (y : S12x2x144x512.Idx) (chunk : ℕ) (hc : chunk = 2 * t.val + (y 1).val) : (dats m 0 c).after 11 t y
    = values (m ((c.tc : Thread nD τ).loc main_arg0)) 3072 512 (y 0).val chunk (y 2).val (y 3).val := by
  rw [after0_11]
  unfold outsAt0
  dsimp only
  frame_out
  canon_tiles x hh using View.cover_of_tiledBy _ ![1, 1, 16, 512] (by sl_kernel_rfl) y
  all_goals
    open_payloads
    idx_vars x
    pointwise []
    first
    | exact values_one (by omega)
    | refine (read_a m c t _ _).trans ?_
      exact values_eq (by omega) (by simp only [token]; omega) (by dsimp only; omega)

end Cert.Proof.Preparation
end
-- ==== Proof.PrepReference.lean ====
module

public import proofs.«01_k».proof.Proof.DenseQueries
public import proofs.«01_k».proof.Proof.Gen.PrepRefIdeal.Run

/-! The reference for the preparation of keys and values: the stages of the keys, and what each of them holds at an index. -/

@[expose] public section

set_option maxRecDepth 16384

noncomputable section

namespace Cert.Proof.PreparationRef

open Cert.Proof.Dense (rowAngles colAngles turned normalized turnAngle turnAngle_eq)
open Cert.PrepRefIdeal Cert.PrepRefIdeal.Gen Cert.PrepRefIdeal.Value
open Idealize.ShloMosaic Idealize.ShloMosaic.TcCoe Idealize.SL.Sem

variable (m : (ℓ : Loc nD τ sig) → Buf (Elt Ideal) ℓ) (c : Dev nD)

/-- The four raw key heads. -/
abbrev refHeads (P : FVec Ideal S16384x12800 .bf16) : FVec Ideal S16384x4x128 .f32 :=
  shapeCast S16384x4x128 (extractStridedSlice S16384x512 ![0, 10240] (extf .f32 P bitsLt_bf16_f32)
    slices_S16384x12800_S16384x512_0_10240) shapeCasts_S16384x512_S16384x4x128

/-- The key heads divided by the root of their mean square, times the gain. -/
abbrev refNormed (x : FVec Ideal S16384x4x128 .f32) (g : FVec Ideal S128 .f32) : FVec Ideal S16384x4x128 .f32 :=
  mulf (mulf x (broadcastInDim S16384x4x128 ![0, 1, 2] bcast_S16384x4x1_S16384x4x128_0_1_2
      (Host.rsqrt (addf (Host.divf
        (broadcastInDim S16384x4x1 ![0, 1] bcast_S16384x4_S16384x4x1_0_1
          (Host.reduceAdd (mulf x x) (constant S_ .f32 0x00000000#32) reducesTo_S16384x4x128_S16384x4_d2 h_S_))
        (broadcastInDim S16384x4x1 ![] bcast_S_S16384x4x1 (constant S_ .f32 0x43000000#32)))
        (broadcastInDim S16384x4x1 ![] bcast_S_S16384x4x1 (constant S_ .f32 0x358637BD#32))))))
    (broadcastInDim S16384x4x128 ![0, 1, 2] bcast_S1x1x128_S16384x4x128_0_1_2
      (broadcastInDim S1x1x128 ![2] bcast_S128_S1x1x128_2 g))

/-- Half of a head turned by one set of angles. -/
abbrev refTurn (x : FVec Ideal S16384x4x64 .f32) (a : FVec Ideal S16384x32 .f32) : FVec Ideal S16384x4x64 .f32 :=
  fn_main_v77 (F := Ideal)
    (subf
      (mulf (extractStridedSlice S16384x4x32 ![0, 0, 0] x slices_S16384x4x64_S16384x4x32_0_0_0)
        (broadcastInDim S16384x4x32 ![0, 1, 2] bcast_S16384x1x32_S16384x4x32_0_1_2
          (broadcastInDim S16384x1x32 ![0, 2] bcast_S16384x32_S16384x1x32_0_2 (Host.cos a))))
      (mulf (extractStridedSlice S16384x4x32 ![0, 0, 32] x slices_S16384x4x64_S16384x4x32_0_0_32)
        (broadcastInDim S16384x4x32 ![0, 1, 2] bcast_S16384x1x32_S16384x4x32_0_1_2
          (broadcastInDim S16384x1x32 ![0, 2] bcast_S16384x32_S16384x1x32_0_2 (Host.sin a)))))
    (addf
      (mulf (extractStridedSlice S16384x4x32 ![0, 0, 32] x slices_S16384x4x64_S16384x4x32_0_0_32)
        (broadcastInDim S16384x4x32 ![0, 1, 2] bcast_S16384x1x32_S16384x4x32_0_1_2
          (broadcastInDim S16384x1x32 ![0, 2] bcast_S16384x32_S16384x1x32_0_2 (Host.cos a))))
      (mulf (extractStridedSlice S16384x4x32 ![0, 0, 0] x slices_S16384x4x64_S16384x4x32_0_0_0)
        (broadcastInDim S16384x4x32 ![0, 1, 2] bcast_S16384x1x32_S16384x4x32_0_1_2
          (broadcastInDim S16384x1x32 ![0, 2] bcast_S16384x32_S16384x1x32_0_2 (Host.sin a)))))

/-- The key heads turned, the first half by the rows and the second by the columns. -/
abbrev refTurned (x : FVec Ideal S16384x4x128 .f32) : FVec Ideal S16384x4x128 .f32 :=
  fn_main_v94 (F := Ideal)
    (refTurn (extractStridedSlice S16384x4x64 ![0, 0, 0] x slices_S16384x4x128_S16384x4x64_0_0_0) rowAngles)
    (refTurn (extractStridedSlice S16384x4x64 ![0, 0, 64] x slices_S16384x4x128_S16384x4x64_0_0_64) colAngles)

/-- The whole reference of the keys, by its stages. -/
abbrev refKeys (P : FVec Ideal S16384x12800 .bf16) (g : FVec Ideal S128 .f32) : FVec Ideal S16384x512 .bf16 :=
  truncf .bf16 (shapeCast S16384x512 (refTurned (refNormed (refHeads P) g)) shapeCasts_S16384x4x128_S16384x512) bitsLt_bf16_f32

set_option maxHeartbeats 4000000 in
set_option maxRecDepth 65536 in
/-- The reference's keys are its stages' composition. -/
theorem keys_staged : res_main_v111 m c
    = refKeys (m ((c.tc : Thread nD τ).loc main_arg0)) (m ((c.tc : Thread nD τ).loc main_arg1)) := by
  unfold res_main_v111
  rfl

variable (P : FVec Ideal S16384x12800 .bf16) (g : FVec Ideal S128 .f32)

set_option maxHeartbeats 4000000 in
/-- The normalized key at an entry. -/
theorem normed_at (x : Fin 16384) (h : Fin 4) (d : Fin 128) : refNormed (refHeads P) g (ix3 x h d)
    = normalized (fun k => P (ix2 x ⟨10240 + (h.val * 128 + k.val), by omega⟩)) (fun k => g (ix1 k)) d := by
  pointwise [refNormed]
  rfl

set_option maxHeartbeats 4000000 in
/-- The turned keys at an entry. -/
theorem turned_at (y : FVec Ideal S16384x4x128 .f32) (x : Fin 16384) (h : Fin 4) (d : Fin 128) :
    refTurned y (ix3 x h d) = turned (fun k => y (ix3 x h k)) x.val d := by
  unfold refTurned refTurn fn_main_v94 fn_main_v77
  pointwise []
  simp only [turnAngle_eq]
  unfold turned
  by_cases h1 : d.val < 32
  · have h2 : d.val < 64 := by omega
    simp only [h1, h2, dif_pos]
  by_cases h2 : d.val < 64
  · have e : (⟨32 + (d.val - 32), by omega⟩ : Fin 128) = d := Fin.ext (by show 32 + (d.val - 32) = d.val; omega)
    simp only [h1, h2, dif_pos, dif_neg, not_false_eq_true, e]
  by_cases h3 : d.val < 96
  · have h3' : d.val - 64 < 32 := by omega
    have e : (⟨64 + (d.val - 64), by omega⟩ : Fin 128) = d := Fin.ext (by show 64 + (d.val - 64) = d.val; omega)
    have e2 : (⟨64 + (32 + (d.val - 64)), by omega⟩ : Fin 128) = ⟨32 + d.val, by omega⟩ :=
      Fin.ext (by show 64 + (32 + (d.val - 64)) = 32 + d.val; omega)
    simp only [h1, h2, h3, h3', dif_pos, dif_neg, not_false_eq_true, e, e2]
  · have h3' : ¬ d.val - 64 < 32 := by omega
    have e : (⟨64 + (32 + (d.val - 64 - 32)), by omega⟩ : Fin 128) = d :=
      Fin.ext (by show 64 + (32 + (d.val - 64 - 32)) = d.val; omega)
    have e2 : (⟨64 + (d.val - 64 - 32), by omega⟩ : Fin 128) = ⟨d.val - 32, by omega⟩ :=
      Fin.ext (by show 64 + (d.val - 64 - 32) = d.val - 32; omega)
    have e3 : d.val - 64 - 32 = d.val - 96 := by omega
    simp only [h1, h2, h3, h3', dif_neg, not_false_eq_true, e, e2]
    rw [e3]

/-- Laying the heads side by side. -/
theorem flat_at (T : FVec Ideal S16384x4x128 .f32) (x : Fin 16384) (j : Fin 512) :
    truncf (F := Ideal) .bf16 (shapeCast S16384x512 T shapeCasts_S16384x4x128_S16384x512) bitsLt_bf16_f32 (ix2 x j)
      = T (ix3 x ⟨j.val / 128, by omega⟩ ⟨j.val % 128, by omega⟩) := by
  pointwise []

/-- The prepared keys at an entry. -/
theorem keys_at (x : Fin 16384) (j : Fin 512) : refKeys P g (ix2 x j)
    = turned (normalized (fun k => P (ix2 x ⟨10240 + (j.val / 128 * 128 + k.val), by omega⟩)) (fun k => g (ix1 k))) x.val
        ⟨j.val % 128, by omega⟩ := by
  refine (flat_at _ x j).trans ((turned_at _ x _ _).trans ?_)
  simp only [normed_at]

end Cert.Proof.PreparationRef
end
-- ==== Proof.PrepValue.lean ====
/-
  The preparation of keys and values: its four result arrays, and that they are the reference's.
-/
module

public import proofs.«01_k».proof.Defs
public import proofs.«01_k».proof.Proof.PrepKeys
public import proofs.«01_k».proof.Proof.PrepValues
public import proofs.«01_k».proof.Proof.PrepReference

@[expose] public section

set_option maxRecDepth 16384

noncomputable section

open Idealize.ShloMosaic Idealize.ShloMosaic.TcCoe Idealize.SL.Sem
open Idealize.ShloMosaic.Pipeline (Dat)

namespace Cert.Proof.Preparation

open Cert.PrepIdeal Cert.PrepIdeal.Gen

variable (P : Vec Ideal S16384x12800 .bf16) (g : Vec Ideal S128 .f32)

/-- The first mixer's values: twelve heads, 32 chunks of 512 tokens. -/
def valuesA : Vec Ideal S12x32x144x512 .bf16 := fun i => values P 3072 512 (i 0).val (i 1).val (i 2).val (i 3).val

/-- The second mixer's values: two heads, 64 chunks of 256 tokens. -/
def valuesB : Vec Ideal S2x64x144x256 .bf16 := fun i => values P 7424 256 (i 0).val (i 1).val (i 2).val (i 3).val

/-- The third mixer's values: four heads, 16 chunks of 1024 tokens. -/
def valuesC : Vec Ideal S4x16x144x1024 .bf16 := fun i => values P 10752 1024 (i 0).val (i 1).val (i 2).val (i 3).val

/-- The third mixer's keys. -/
def keys : Vec Ideal S16384x512 .bf16 := fun i => key P g (i 0 : Fin 16384) (i 1 : Fin 512).val (i 1 : Fin 512).isLt

variable (m : (ℓ : Loc nD τ sig) → Buf (Elt Ideal) ℓ) (c : Dev nD)

/-- Where an index of a block of values lies in its array. -/
theorem place_a (t : Fin cfg0.N) (y) : ((win0_11.blk t).view.emb y 0).val = (y 0).val
    ∧ ((win0_11.blk t).view.emb y 1).val = 2 * t.val + (y 1).val ∧ ((win0_11.blk t).view.emb y 2).val = (y 2).val
    ∧ ((win0_11.blk t).view.emb y 3).val = (y 3).val := by
  have i := (block_index t).2.2.2.2.2.2.2.1
  refine ⟨(win0_11.rect_emb_val t y 0).trans ?_, (win0_11.rect_emb_val t y 1).trans ?_, (win0_11.rect_emb_val t y 2).trans ?_,
    (win0_11.rect_emb_val t y 3).trans ?_⟩ <;> rw [i]
  · show 0 * 12 + (y 0).val = _; omega
  · show t.val * 2 + (y 1).val = _; omega
  · show 0 * 144 + (y 2).val = _; omega
  · show 0 * 512 + (y 3).val = _; omega

/-- Where an index of a block of values lies in its array. -/
theorem place_b (t : Fin cfg0.N) (y) : ((win0_12.blk t).view.emb y 0).val = (y 0).val
    ∧ ((win0_12.blk t).view.emb y 1).val = 4 * t.val + (y 1).val ∧ ((win0_12.blk t).view.emb y 2).val = (y 2).val
    ∧ ((win0_12.blk t).view.emb y 3).val = (y 3).val := by
  have i := (block_index t).2.2.2.2.2.2.2.2.1
  refine ⟨(win0_12.rect_emb_val t y 0).trans ?_, (win0_12.rect_emb_val t y 1).trans ?_, (win0_12.rect_emb_val t y 2).trans ?_,
    (win0_12.rect_emb_val t y 3).trans ?_⟩ <;> rw [i]
  · show 0 * 2 + (y 0).val = _; omega
  · show t.val * 4 + (y 1).val = _; omega
  · show 0 * 144 + (y 2).val = _; omega
  · show 0 * 256 + (y 3).val = _; omega

/-- Where an index of a block of values lies in its array. -/
theorem place_c (t : Fin cfg0.N) (y) : ((win0_13.blk t).view.emb y 0).val = (y 0).val
    ∧ ((win0_13.blk t).view.emb y 1).val = t.val + (y 1).val ∧ ((win0_13.blk t).view.emb y 2).val = (y 2).val
    ∧ ((win0_13.blk t).view.emb y 3).val = (y 3).val := by
  have i := (block_index t).2.2.2.2.2.2.2.2.2.1
  refine ⟨(win0_13.rect_emb_val t y 0).trans ?_, (win0_13.rect_emb_val t y 1).trans ?_, (win0_13.rect_emb_val t y 2).trans ?_,
    (win0_13.rect_emb_val t y 3).trans ?_⟩ <;> rw [i]
  · show 0 * 4 + (y 0).val = _; omega
  · show t.val * 1 + (y 1).val = _; omega
  · show 0 * 144 + (y 2).val = _; omega
  · show 0 * 1024 + (y 3).val = _; omega

/-- Where an index of a block of keys lies in its array. -/
theorem place_key (t : Fin cfg0.N) (y) : ((win0_14.blk t).view.emb y 0).val = 1024 * t.val + (y 0).val
    ∧ ((win0_14.blk t).view.emb y 1).val = (y 1).val := by
  have i := (block_index t).2.2.2.2.2.2.2.2.2.2
  refine ⟨(win0_14.rect_emb_val t y 0).trans ?_, (win0_14.rect_emb_val t y 1).trans ?_⟩ <;> rw [i]
  · show t.val * 1024 + (y 0).val = _; omega
  · show 0 * 512 + (y 1).val = _; omega

/-- The first result array after the run is the first mixer's values. -/
theorem valuesA_eq : (dats m 0 c).arrAt 11 (cfgs 0).N = valuesA (m ((c.tc : Thread nD τ).loc main_arg0)) := by
  refine (dats m 0 c).arrAt_eq_of_covers 11 _ (by decide +kernel) fun t _ y => ?_
  blk_simp
  refine (block_a m c t y (2 * t.val + (y 1).val) rfl).trans ?_
  obtain ⟨e0, e1, e2, e3⟩ := place_a t y
  unfold valuesA
  rw [e0, e1, e2, e3]

/-- The second result array after the run is the second mixer's values. -/
theorem valuesB_eq : (dats m 0 c).arrAt 12 (cfgs 0).N = valuesB (m ((c.tc : Thread nD τ).loc main_arg0)) := by
  refine (dats m 0 c).arrAt_eq_of_covers 12 _ (by decide +kernel) fun t _ y => ?_
  blk_simp
  refine (block_b m c t y (4 * t.val + (y 1).val) rfl).trans ?_
  obtain ⟨e0, e1, e2, e3⟩ := place_b t y
  unfold valuesB
  rw [e0, e1, e2, e3]

/-- The third result array after the run is the third mixer's values. -/
theorem valuesC_eq : (dats m 0 c).arrAt 13 (cfgs 0).N = valuesC (m ((c.tc : Thread nD τ).loc main_arg0)) := by
  refine (dats m 0 c).arrAt_eq_of_covers 13 _ (by decide +kernel) fun t _ y => ?_
  blk_simp
  refine (block_c m c t y (t.val + (y 1).val) rfl).trans ?_
  obtain ⟨e0, e1, e2, e3⟩ := place_c t y
  unfold valuesC
  rw [e0, e1, e2, e3]

/-- The prepared key depends on the token and the column alone. -/
theorem key_congr {x x' : Fin 16384} {j j' : ℕ} (hj : j < 512) (hj' : j' < 512) (hx : x = x') (e : j = j') :
    key P g x j hj = key P g x' j' hj' := by
  subst hx e
  rfl

/-- The fourth result array after the run is the keys. -/
theorem keys_eq : (dats m 0 c).arrAt 14 (cfgs 0).N
    = keys (m ((c.tc : Thread nD τ).loc main_arg0)) (m ((c.tc : Thread nD τ).loc main_arg1)) := by
  refine (dats m 0 c).arrAt_eq_of_covers 14 _ (by decide +kernel) fun t _ y => ?_
  blk_simp
  refine (block_key m c t y (y 0).isLt (y 1).isLt).trans ?_
  obtain ⟨e0, e1⟩ := place_key t y
  exact key_congr _ _ _ _ (Fin.ext e0.symm) e1.symm

end Cert.Proof.Preparation

namespace Cert.Proof

open Cert.PrepRefIdeal.Value in
/-- The preparation's first four results and its reference's are the same, and both keep their arguments. -/
theorem prep : Cert.algebraic_PrepIdeal_PrepRefIdeal := by
  intro m ρ m' ρ' _ hagree
  refine ⟨_, _, _, _, (θ_run Cert.PrepIdeal.defs _ _).mono
    (fun _ h c => ⟨(h c).1, (h c).2.1, (h c).2.2.1, (h c).2.2.2.1, (h c).2.2.2.2.2⟩) (Cert.PrepIdeal.Value.run_blocks m ρ), ?_⟩
  refine (θ_run Cert.PrepRefIdeal.defs _ _).mono (fun _ h c => ⟨(h c).1.trans ?_, (h c).2.1.trans ?_, (h c).2.2.1.trans ?_,
    (h c).2.2.2.1.trans ?_, (h c).2.2.2.2⟩) (Cert.PrepRefIdeal.Value.run (F := Ideal) m' ρ')
  · rw [(hagree c).1, Preparation.valuesA_eq]
    funext i
    idx_vars i
    unfold Preparation.valuesA
    pointwise
    split_ifs with h2
    · exact Preparation.values_eq h2 (by dsimp only; omega) (by dsimp only; omega)
    · exact Preparation.values_one (by omega)
  · rw [(hagree c).1, Preparation.valuesB_eq]
    funext i
    idx_vars i
    unfold Preparation.valuesB
    pointwise
    split_ifs with h2
    · exact Preparation.values_eq h2 (by dsimp only; omega) (by dsimp only; omega)
    · exact Preparation.values_one (by omega)
  · rw [(hagree c).1, Preparation.valuesC_eq]
    funext i
    idx_vars i
    unfold Preparation.valuesC
    pointwise
    split_ifs with h2
    · exact Preparation.values_eq h2 (by dsimp only; omega) (by dsimp only; omega)
    · exact Preparation.values_one (by omega)
  · rw [PreparationRef.keys_staged, (hagree c).1, (hagree c).2, Preparation.keys_eq]
    funext i
    idx_vars i
    exact PreparationRef.keys_at _ _ _ _

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.Pre_finite_and_ones
public import proofs.«01_k».proof.Proof.Gen.KernelIdeal.Value
public import proofs.«01_k».proof.Proof.Gen.ReferenceIdeal.Run
public import proofs.«01_k».proof.Proof.Gen.InProjIdeal.Value
public import proofs.«01_k».proof.Proof.Gen.InRefIdeal.Run
public import proofs.«01_k».proof.Proof.Gen.OutProjIdeal.Value
public import proofs.«01_k».proof.Proof.Gen.OutRefIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModRefIdeal
public import proofs.«01_k».proof.Proof.Gen.ModRefIdeal.Run
public import proofs.«01_k».proof.Proof.Gen.Prenorm
public import proofs.«01_k».proof.Proof.Gen.Prenorm.Frame
public import proofs.«01_k».proof.Proof.Gen.PrenormIdeal
public import proofs.«01_k».proof.Proof.Gen.PrenormIdeal.Frame
public import proofs.«01_k».proof.Proof.Gen.PrenormIdeal.Value
public import proofs.«01_k».proof.Proof.Gen.PreRefIdeal
public import proofs.«01_k».proof.Proof.Gen.PreRefIdeal.Run
public import proofs.«01_k».proof.Proof.Gen.Postnorm
public import proofs.«01_k».proof.Proof.Gen.Postnorm.Frame
public import proofs.«01_k».proof.Proof.Gen.PostnormIdeal
public import proofs.«01_k».proof.Proof.Gen.PostnormIdeal.Frame
public import proofs.«01_k».proof.Proof.Gen.PostnormIdeal.Value
public import proofs.«01_k».proof.Proof.Gen.PostRefIdeal
public import proofs.«01_k».proof.Proof.Gen.PostRefIdeal.Run
public import proofs.«01_k».proof.Proof.Gen.Next
public import proofs.«01_k».proof.Proof.Gen.Next.Frame
public import proofs.«01_k».proof.Proof.Gen.NextIdeal
public import proofs.«01_k».proof.Proof.Gen.NextIdeal.Frame
public import proofs.«01_k».proof.Proof.Gen.NextIdeal.Value
public import proofs.«01_k».proof.Proof.Gen.NextRefIdeal
public import proofs.«01_k».proof.Proof.Gen.NextRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.InProjValue
public import proofs.«01_k».proof.Proof.OutProjValue
public import proofs.«01_k».proof.Proof.DenseValue
public import proofs.«01_k».proof.Proof.ModulationValue
public import proofs.«01_k».proof.Proof.PrenormValue
public import proofs.«01_k».proof.Proof.PostnormValue
public import proofs.«01_k».proof.Proof.NextValue
public import proofs.«01_k».proof.Proof.PrepValue
public import Idealize.ShloMosaic.Adequacy
public import Idealize.ShloMosaic.Init

@[expose] public section

noncomputable section

namespace Cert.Proof

open Idealize.ShloMosaic Idealize.SL.Sem Cert.Kernel

/-- The reference of the attention terminates, keeps its arguments and leaves every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the in-projection terminates, keeps its arguments and leaves every semaphore at zero. -/
theorem frame_in_reference : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The reference of the out-projection terminates, keeps its arguments and leaves every semaphore at zero. -/
theorem frame_out_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The reference of the modulation terminates, keeps its arguments and leaves every semaphore at zero. -/
theorem frame_modulation_reference : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The reference of the pre-norm terminates, keeps its arguments and leaves every semaphore at zero. -/
theorem frame_prenorm_reference : Cert.quiescent_PreRefIdeal := fun m ρ _ =>
  (θ_run Cert.PreRefIdeal.defs _ _).mono (fun r h => ⟨fun c => (h c).2, sem_eq_zero_of_no_sems (by decide) r.2⟩)
    (Cert.PreRefIdeal.Value.run (F := Ideal) m ρ)

/-- The reference of the last post-norm terminates, keeps its arguments and leaves every semaphore at zero. -/
theorem frame_postnorm_reference : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The reference of the post-norm with the next pre-norm terminates, keeps its arguments and leaves every semaphore at zero. -/
theorem frame_next_reference : Cert.quiescent_NextRefIdeal := fun m ρ _ =>
  (θ_run Cert.NextRefIdeal.defs _ _).mono (fun r h => ⟨fun c => (h c).2.2, sem_eq_zero_of_no_sems (by decide) r.2⟩)
    (Cert.NextRefIdeal.Value.run (F := Ideal) m ρ)

/-- The reference of the preparation of keys and values terminates, keeps its arguments and leaves every semaphore at zero. -/
theorem frame_prep_reference : Cert.quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

theorem claim : Cert.Claim := ⟨Cert.Kernel.Gen.facts, Cert.KernelIdeal.Gen.facts, Cert.ReferenceIdeal.Gen.facts, Cert.InProj.Gen.facts, Cert.InProjIdeal.Gen.facts, Cert.InRefIdeal.Gen.facts, Cert.OutProj.Gen.facts, Cert.OutProjIdeal.Gen.facts, Cert.OutRefIdeal.Gen.facts, Cert.Modulation.Gen.facts, Cert.ModulationIdeal.Gen.facts, Cert.ModRefIdeal.Gen.facts, Cert.Prenorm.Gen.facts, Cert.PrenormIdeal.Gen.facts, Cert.PreRefIdeal.Gen.facts, Cert.Postnorm.Gen.facts, Cert.PostnormIdeal.Gen.facts, Cert.PostRefIdeal.Gen.facts, Cert.Next.Gen.facts, Cert.NextIdeal.Gen.facts, Cert.NextRefIdeal.Gen.facts, Cert.Prep.Gen.facts, Cert.PrepIdeal.Gen.facts, Cert.PrepRefIdeal.Gen.facts, Cert.Pre_finite_and_ones.Gen.facts, by
  exact ⟨fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.InProj.Gen.frame m ρ, fun m ρ _ => Cert.InProjIdeal.Gen.frame m ρ, frame_in_reference,
    fun m ρ _ => Cert.OutProj.Gen.frame m ρ, fun m ρ _ => Cert.OutProjIdeal.Gen.frame m ρ, frame_out_reference,
    fun m ρ _ => Cert.Modulation.Gen.frame m ρ, fun m ρ _ => Cert.ModulationIdeal.Gen.frame m ρ, frame_modulation_reference,
    fun m ρ _ => Cert.Prenorm.Gen.frame m ρ, fun m ρ _ => Cert.PrenormIdeal.Gen.frame m ρ, frame_prenorm_reference,
    fun m ρ _ => Cert.Postnorm.Gen.frame m ρ, fun m ρ _ => Cert.PostnormIdeal.Gen.frame m ρ, frame_postnorm_reference,
    fun m ρ _ => Cert.Next.Gen.frame m ρ, fun m ρ _ => Cert.NextIdeal.Gen.frame m ρ, frame_next_reference,
    fun m ρ _ => Cert.Prep.Gen.frame m ρ, fun m ρ _ => Cert.PrepIdeal.Gen.frame m ρ, frame_prep_reference,
    IdealRules.named_const.statement _ _ _ _ _ rfl,
    dense_attention, trivial, in_projection, trivial, out_projection,
    trivial, modulation, trivial, prenorm, trivial, postnorm, trivial, next_layer, trivial, prep⟩⟩

end Cert.Proof

end
